-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_table [hPre_zero_table : Cert.Pre_zero_table.Facts] (m : (ℓ : Loc Cert.KernelIdeal.nD Cert.KernelIdeal.τ Cert.KernelIdeal.sig) → Buf (Elt Ideal) ℓ) : Prop :=
  ∀ c : Dev Cert.KernelIdeal.nD,
    (Cert.Pre_zero_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_table [hPre_zero_table : Cert.Pre_zero_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zero_table [hKernelIdeal : Cert.KernelIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_zero_table [hReferenceIdeal : Cert.ReferenceIdeal.Facts] [hPre_zero_table : Cert.Pre_zero_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_zero_table [hKernelIdeal : Cert.KernelIdeal.Facts] [hReferenceIdeal : Cert.ReferenceIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_zero_table : Cert.Pre_zero_table.Facts),
    quiescent_Kernel (hKernel := hKernel)
    ∧ quiescent_KernelIdeal (hKernelIdeal := hKernelIdeal)
    ∧ quiescent_KernelIdeal_pre_zero_table (hKernelIdeal := hKernelIdeal) (hPre_zero_table := hPre_zero_table)
    ∧ quiescent_ReferenceIdeal (hReferenceIdeal := hReferenceIdeal)
    ∧ quiescent_ReferenceIdeal_pre_zero_table (hReferenceIdeal := hReferenceIdeal) (hPre_zero_table := hPre_zero_table)
    ∧ preserves_Kernel_KernelIdeal
    ∧ algebraic_KernelIdeal_ReferenceIdeal_pre_zero_table (hKernelIdeal := hKernelIdeal) (hReferenceIdeal := hReferenceIdeal) (hPre_zero_table := hPre_zero_table)
-- ==== Pre_zero_table.lean ====
abbrev S2048x1024 : Shape := ⟨2, ![2048, 1024]⟩
abbrev S2048x21x1024 : Shape := ⟨3, ![2048, 21, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x21x1024 : S_.BroadcastsInDim S2048x21x1024 (![] : Fin 0 → Fin S2048x21x1024.rank)
  reducesTo_S2048x21x1024_S_d0_1_2 : S2048x21x1024.ReducesTo [0, 1, 2] S_

variable [Facts]

def fn {F : FTy → Type} [FloatOps F] (main_arg0 : IVec S2048x1024 32) (main_arg1 : FVec F S2048x21x1024 .f32) : IVec S_ 1 :=
  let main_c : IVec S_ 32 := constantI S_ 32 0#32
  let main_v0 : IVec S2048x1024 32 := broadcastInDim S2048x1024 ![] bcast_S_S2048x1024 main_c
  let main_v1 : IVec S2048x1024 1 := cmpi .sge main_arg0 main_v0
  let main_c_0 : IVec S_ 1 := constantI S_ 1 1#1
  let main_v2 : IVec S_ 1 := (fun x v => Host.reduce IntOp.andi x v reducesTo_S2048x1024_S_d0_1 h_S_) main_v1 main_c_0
  let main_cst : FVec F S_ .f32 := constant S_ .f32 0x00000000#32
  let main_v3 : FVec F S2048x21x1024 .f32 := broadcastInDim S2048x21x1024 ![] bcast_S_S2048x21x1024 main_cst
  let main_v4 : IVec S2048x21x1024 1 := cmpf .oeq main_arg1 main_v3
  let main_c_1 : IVec S_ 1 := constantI S_ 1 1#1
  let main_v5 : IVec S_ 1 := (fun x v => Host.reduce IntOp.andi x v reducesTo_S2048x21x1024_S_d0_1_2 h_S_) main_v4 main_c_1
  let main_v6 : IVec S_ 1 := andi main_v2 main_v5
  main_v6
-- ==== Kernel.lean ====
abbrev S2048x1024 : Shape := ⟨2, ![2048, 1024]⟩
abbrev S2048x21x1024 : Shape := ⟨3, ![2048, 21, 1024]⟩
abbrev S21x2048x1024 : Shape := ⟨3, ![21, 2048, 1024]⟩
abbrev S8x256 : Shape := ⟨2, ![8, 256]⟩
abbrev S21x8x256 : Shape := ⟨3, ![21, 8, 256]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S2048x1024x21 : Shape := ⟨3, ![2048, 1024, 21]⟩

abbrev nBuf : Table → Nat
  | .hbm => 4
  | .local .scVector .vmem => 4
  | _ => 0

abbrev bufTy : (tb : Table) → Fin (nBuf tb) → BufTy
  | .hbm, ⟨0, _⟩ => ⟨S2048x1024, .i32⟩
  | .hbm, ⟨1, _⟩ => ⟨S2048x21x1024, .f32⟩
  | .hbm, ⟨2, _⟩ => ⟨S21x2048x1024, .f32⟩
  | .hbm, ⟨3, _⟩ => ⟨S2048x1024x21, .f32⟩
  | .local .scVector .vmem, ⟨0, _⟩ => ⟨S8x256, .i32⟩
  | .local .scVector .vmem, ⟨1, _⟩ => ⟨S8x256, .i32⟩
  | .local .scVector .vmem, ⟨2, _⟩ => ⟨S21x8x256, .f32⟩
  | .local .scVector .vmem, ⟨3, _⟩ => ⟨S21x8x256, .f32⟩
  | _, _ => ⟨S2048x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v4 : BitVec 32 := Scalar.muli v1 c32_i32
  let v5 : BitVec 32 := Scalar.addi v4 c0_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c4_i32 : BitVec 32 := 4#32
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c8_i32 : BitVec 32 := 8#32
  let v23 : BitVec 32 := Scalar.muli v22 c8_i32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v5 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, v34.toNat]
@[reducible] def k0_t1_loop : Scf.Loop 32 :=
  let c0_i32_29 : BitVec 32 := 0#32
  let c16_i32 : BitVec 32 := 16#32
  let v70 : BitVec 32 := Scalar.addi c0_i32_29 c16_i32
  let c1_i32_30 : BitVec 32 := 1#32
  ⟨c0_i32_29, v70, c1_i32_30⟩
def k0_cond1 (k0_t1 : Fin k0_t1_loop.trips) : BitVec 1 :=
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c0_i32_72 : BitVec 32 := 0#32
  let v141 : BitVec 1 := Scalar.cmpi .sgt v138 c0_i32_72
  let v142 : BitVec 32 := Scalar.extui v141
  let c0_i32_73 : BitVec 32 := 0#32
  let v143 : BitVec 1 := Scalar.cmpi .ne v142 c0_i32_73
  v143

def k0_off2 (i : grid0.Coords) (k0_t1 : Fin k0_t1_loop.trips) : Fin 3 → Nat :=
  let c0_i32_229 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_213 : BitVec 32 := 32#32
  let v303 : BitVec 32 := Scalar.muli v1 c32_i32_213
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_70 : BitVec 32 := 2#32
  let v139 : BitVec 32 := Scalar.muli v138 c2_i32_70
  let c0_i32_71 : BitVec 32 := 0#32
  let v140 : BitVec 32 := Scalar.addi v139 c0_i32_71
  let v304 : BitVec 32 := Scalar.addi v303 v140
  let c0_i32_215 : BitVec 32 := 0#32
  let v306 : BitVec 1 := Scalar.cmpi .sgt v304 c0_i32_215
  let v307 : BitVec 32 := Scalar.extui v306
  let c0_i32_216 : BitVec 32 := 0#32
  let v308 : BitVec 1 := Scalar.cmpi .slt v304 c0_i32_216
  let v309 : BitVec 32 := Scalar.extui v308
  let v310 : BitVec 32 := Scalar.subi v307 v309
  let c4_i32_214 : BitVec 32 := 4#32
  let c0_i32_217 : BitVec 32 := 0#32
  let v311 : BitVec 1 := Scalar.cmpi .sgt c4_i32_214 c0_i32_217
  let v312 : BitVec 32 := Scalar.extui v311
  let c0_i32_218 : BitVec 32 := 0#32
  let v313 : BitVec 1 := Scalar.cmpi .slt c4_i32_214 c0_i32_218
  let v314 : BitVec 32 := Scalar.extui v313
  let v315 : BitVec 32 := Scalar.subi v312 v314
  let v316 : BitVec 1 := Scalar.cmpi .ne v310 v315
  let v317 : BitVec 32 := Scalar.remsi v304 c4_i32_214
  let c0_i32_219 : BitVec 32 := 0#32
  let v318 : BitVec 1 := Scalar.cmpi .ne v317 c0_i32_219
  let v319 : BitVec 1 := Scalar.andi v316 v318
  let v305 : BitVec 32 := Scalar.divsi v304 c4_i32_214
  let c1_i32_220 : BitVec 32 := 1#32
  let v320 : BitVec 32 := Scalar.subi v305 c1_i32_220
  let v321 : BitVec 32 := Scalar.select v319 v320 v305
  let c8_i32_221 : BitVec 32 := 8#32
  let v322 : BitVec 32 := Scalar.muli v321 c8_i32_221
  let c4_i32_222 : BitVec 32 := 4#32
  let c0_i32_223 : BitVec 32 := 0#32
  let v323 : BitVec 1 := Scalar.cmpi .eq c4_i32_222 c0_i32_223
  let c1_i32_224 : BitVec 32 := 1#32
  let v324 : BitVec 32 := Scalar.select v323 c1_i32_224 c4_i32_222
  let v325 : BitVec 32 := Scalar.remsi v304 v324
  let c0_i32_226 : BitVec 32 := 0#32
  let v327 : BitVec 1 := Scalar.cmpi .slt v325 c0_i32_226
  let c0_i32_227 : BitVec 32 := 0#32
  let v328 : BitVec 1 := Scalar.cmpi .slt v324 c0_i32_227
  let v329 : BitVec 1 := Scalar.xori v327 v328
  let c0_i32_225 : BitVec 32 := 0#32
  let v326 : BitVec 1 := Scalar.cmpi .ne v325 c0_i32_225
  let v330 : BitVec 1 := Scalar.andi v329 v326
  let v331 : BitVec 32 := Scalar.addi v325 v324
  let v332 : BitVec 32 := Scalar.select v330 v331 v325
  let c256_i32_228 : BitVec 32 := 256#32
  let v333 : BitVec 32 := Scalar.muli v332 c256_i32_228
  ![0, v322.toNat, v333.toNat]
def k0_off3 (i : grid0.Coords) (k0_t1 : Fin k0_t1_loop.trips) (c0_i32_71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_74 : BitVec 32 := 32#32
  let v144 : BitVec 32 := Scalar.muli v1 c32_i32_74
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_70 : BitVec 32 := 2#32
  let v139 : BitVec 32 := Scalar.muli v138 c2_i32_70
  let v140 : BitVec 32 := Scalar.addi v139 c0_i32_71
  let v145 : BitVec 32 := Scalar.addi v144 v140
  let c0_i32_76 : BitVec 32 := 0#32
  let v147 : BitVec 1 := Scalar.cmpi .sgt v145 c0_i32_76
  let v148 : BitVec 32 := Scalar.extui v147
  let c0_i32_77 : BitVec 32 := 0#32
  let v149 : BitVec 1 := Scalar.cmpi .slt v145 c0_i32_77
  let v150 : BitVec 32 := Scalar.extui v149
  let v151 : BitVec 32 := Scalar.subi v148 v150
  let c4_i32_75 : BitVec 32 := 4#32
  let c0_i32_78 : BitVec 32 := 0#32
  let v152 : BitVec 1 := Scalar.cmpi .sgt c4_i32_75 c0_i32_78
  let v153 : BitVec 32 := Scalar.extui v152
  let c0_i32_79 : BitVec 32 := 0#32
  let v154 : BitVec 1 := Scalar.cmpi .slt c4_i32_75 c0_i32_79
  let v155 : BitVec 32 := Scalar.extui v154
  let v156 : BitVec 32 := Scalar.subi v153 v155
  let v157 : BitVec 1 := Scalar.cmpi .ne v151 v156
  let v158 : BitVec 32 := Scalar.remsi v145 c4_i32_75
  let c0_i32_80 : BitVec 32 := 0#32
  let v159 : BitVec 1 := Scalar.cmpi .ne v158 c0_i32_80
  let v160 : BitVec 1 := Scalar.andi v157 v159
  let v146 : BitVec 32 := Scalar.divsi v145 c4_i32_75
  let c1_i32_81 : BitVec 32 := 1#32
  let v161 : BitVec 32 := Scalar.subi v146 c1_i32_81
  let v162 : BitVec 32 := Scalar.select v160 v161 v146
  let c8_i32_82 : BitVec 32 := 8#32
  let v163 : BitVec 32 := Scalar.muli v162 c8_i32_82
  let c4_i32_83 : BitVec 32 := 4#32
  let c0_i32_84 : BitVec 32 := 0#32
  let v164 : BitVec 1 := Scalar.cmpi .eq c4_i32_83 c0_i32_84
  let c1_i32_85 : BitVec 32 := 1#32
  let v165 : BitVec 32 := Scalar.select v164 c1_i32_85 c4_i32_83
  let v166 : BitVec 32 := Scalar.remsi v145 v165
  let c0_i32_87 : BitVec 32 := 0#32
  let v168 : BitVec 1 := Scalar.cmpi .slt v166 c0_i32_87
  let c0_i32_88 : BitVec 32 := 0#32
  let v169 : BitVec 1 := Scalar.cmpi .slt v165 c0_i32_88
  let v170 : BitVec 1 := Scalar.xori v168 v169
  let c0_i32_86 : BitVec 32 := 0#32
  let v167 : BitVec 1 := Scalar.cmpi .ne v166 c0_i32_86
  let v171 : BitVec 1 := Scalar.andi v170 v167
  let v172 : BitVec 32 := Scalar.addi v166 v165
  let v173 : BitVec 32 := Scalar.select v171 v172 v166
  let c256_i32_89 : BitVec 32 := 256#32
  let v174 : BitVec 32 := Scalar.muli v173 c256_i32_89
  ![v163.toNat, v174.toNat]
@[reducible] def k0_t2_loop : Scf.Loop 32 :=
  let c0_i32_90 : BitVec 32 := 0#32
  let c16_i32_91 : BitVec 32 := 16#32
  let v177 : BitVec 32 := Scalar.addi c0_i32_90 c16_i32_91
  let c1_i32_92 : BitVec 32 := 1#32
  ⟨c0_i32_90, v177, c1_i32_92⟩
def k0_off4 (k0_t2 : Fin k0_t2_loop.trips) : Fin 2 → Nat :=
  let c0_i32_215 : BitVec 32 := 0#32
  let v305 : Index := Scalar.indexCast c0_i32_215
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v306 : Index := Scalar.indexCast v304
  ![0, v306.toNat]
def k0_off5 (k0_t2 : Fin k0_t2_loop.trips) : Fin 3 → Nat :=
  let c0_i32_217 : BitVec 32 := 0#32
  let v311 : Index := Scalar.indexCast c0_i32_217
  let c0_i32_218 : BitVec 32 := 0#32
  let v312 : Index := Scalar.indexCast c0_i32_218
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v313 : Index := Scalar.indexCast v304
  ![0, 0, v313.toNat]
def k0_off6 (k0_t2 : Fin k0_t2_loop.trips) : Fin 3 → Nat :=
  let c1_i32_220 : BitVec 32 := 1#32
  let v318 : Index := Scalar.indexCast c1_i32_220
  let c0_i32_221 : BitVec 32 := 0#32
  let v319 : Index := Scalar.indexCast c0_i32_221
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v320 : Index := Scalar.indexCast v304
  ![1, 0, v320.toNat]
def k0_off7 (k0_t2 : Fin k0_t2_loop.trips) : Fin 3 → Nat :=
  let c2_i32_223 : BitVec 32 := 2#32
  let v325 : Index := Scalar.indexCast c2_i32_223
  let c0_i32_224 : BitVec 32 := 0#32
  let v326 : Index := Scalar.indexCast c0_i32_224
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v327 : Index := Scalar.indexCast v304
  ![2, 0, v327.toNat]
def k0_off8 (k0_t2 : Fin k0_t2_loop.trips) : Fin 3 → Nat :=
  let c3_i32_225 : BitVec 32 := 3#32
  let v332 : Index := Scalar.indexCast c3_i32_225
  let c0_i32_226 : BitVec 32 := 0#32
  let v333 : Index := Scalar.indexCast c0_i32_226
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v334 : Index := Scalar.indexCast v304
  ![3, 0, v334.toNat]
def k0_off9 (k0_t2 : Fin k0_t2_loop.trips) : Fin 3 → Nat :=
  let c4_i32_228 : BitVec 32 := 4#32
  let v339 : Index := Scalar.indexCast c4_i32_228
  let c0_i32_229 : BitVec 32 := 0#32
  let v340 : Index := Scalar.indexCast c0_i32_229
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v341 : Index := Scalar.indexCast v304
  ![4, 0, v341.toNat]
def k0_off10 (k0_t2 : Fin k0_t2_loop.trips) : Fin 3 → Nat :=
  let c5_i32_230 : BitVec 32 := 5#32
  let v346 : Index := Scalar.indexCast c5_i32_230
  let c0_i32_231 : BitVec 32 := 0#32
  let v347 : Index := Scalar.indexCast c0_i32_231
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v348 : Index := Scalar.indexCast v304
  ![5, 0, v348.toNat]
def k0_off11 (k0_t2 : Fin k0_t2_loop.trips) : Fin 3 → Nat :=
  let c6_i32_232 : BitVec 32 := 6#32
  let v353 : Index := Scalar.indexCast c6_i32_232
  let c0_i32_233 : BitVec 32 := 0#32
  let v354 : Index := Scalar.indexCast c0_i32_233
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v355 : Index := Scalar.indexCast v304
  ![6, 0, v355.toNat]
def k0_off12 (k0_t2 : Fin k0_t2_loop.trips) : Fin 3 → Nat :=
  let c7_i32_234 : BitVec 32 := 7#32
  let v360 : Index := Scalar.indexCast c7_i32_234
  let c0_i32_235 : BitVec 32 := 0#32
  let v361 : Index := Scalar.indexCast c0_i32_235
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v362 : Index := Scalar.indexCast v304
  ![7, 0, v362.toNat]
def k0_off13 (k0_t2 : Fin k0_t2_loop.trips) : Fin 3 → Nat :=
  let c8_i32_237 : BitVec 32 := 8#32
  let v367 : Index := Scalar.indexCast c8_i32_237
  let c0_i32_238 : BitVec 32 := 0#32
  let v368 : Index := Scalar.indexCast c0_i32_238
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v369 : Index := Scalar.indexCast v304
  ![8, 0, v369.toNat]
def k0_off14 (k0_t2 : Fin k0_t2_loop.trips) : Fin 3 → Nat :=
  let c9_i32_239 : BitVec 32 := 9#32
  let v374 : Index := Scalar.indexCast c9_i32_239
  let c0_i32_240 : BitVec 32 := 0#32
  let v375 : Index := Scalar.indexCast c0_i32_240
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v376 : Index := Scalar.indexCast v304
  ![9, 0, v376.toNat]
def k0_off15 (k0_t2 : Fin k0_t2_loop.trips) : Fin 3 → Nat :=
  let c10_i32_241 : BitVec 32 := 10#32
  let v381 : Index := Scalar.indexCast c10_i32_241
  let c0_i32_242 : BitVec 32 := 0#32
  let v382 : Index := Scalar.indexCast c0_i32_242
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v383 : Index := Scalar.indexCast v304
  ![10, 0, v383.toNat]
def k0_off16 (k0_t2 : Fin k0_t2_loop.trips) : Fin 3 → Nat :=
  let c11_i32_243 : BitVec 32 := 11#32
  let v388 : Index := Scalar.indexCast c11_i32_243
  let c0_i32_244 : BitVec 32 := 0#32
  let v389 : Index := Scalar.indexCast c0_i32_244
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v390 : Index := Scalar.indexCast v304
  ![11, 0, v390.toNat]
def k0_off17 (k0_t2 : Fin k0_t2_loop.trips) : Fin 3 → Nat :=
  let c12_i32_245 : BitVec 32 := 12#32
  let v395 : Index := Scalar.indexCast c12_i32_245
  let c0_i32_246 : BitVec 32 := 0#32
  let v396 : Index := Scalar.indexCast c0_i32_246
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v397 : Index := Scalar.indexCast v304
  ![12, 0, v397.toNat]
def k0_off18 (k0_t2 : Fin k0_t2_loop.trips) : Fin 3 → Nat :=
  let c13_i32_247 : BitVec 32 := 13#32
  let v402 : Index := Scalar.indexCast c13_i32_247
  let c0_i32_248 : BitVec 32 := 0#32
  let v403 : Index := Scalar.indexCast c0_i32_248
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v404 : Index := Scalar.indexCast v304
  ![13, 0, v404.toNat]
def k0_off19 (k0_t2 : Fin k0_t2_loop.trips) : Fin 3 → Nat :=
  let c14_i32_249 : BitVec 32 := 14#32
  let v409 : Index := Scalar.indexCast c14_i32_249
  let c0_i32_250 : BitVec 32 := 0#32
  let v410 : Index := Scalar.indexCast c0_i32_250
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v411 : Index := Scalar.indexCast v304
  ![14, 0, v411.toNat]
def k0_off20 (k0_t2 : Fin k0_t2_loop.trips) : Fin 3 → Nat :=
  let c15_i32_252 : BitVec 32 := 15#32
  let v416 : Index := Scalar.indexCast c15_i32_252
  let c0_i32_253 : BitVec 32 := 0#32
  let v417 : Index := Scalar.indexCast c0_i32_253
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v418 : Index := Scalar.indexCast v304
  ![15, 0, v418.toNat]
def k0_off21 (k0_t2 : Fin k0_t2_loop.trips) : Fin 3 → Nat :=
  let c16_i32_255 : BitVec 32 := 16#32
  let v423 : Index := Scalar.indexCast c16_i32_255
  let c0_i32_256 : BitVec 32 := 0#32
  let v424 : Index := Scalar.indexCast c0_i32_256
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v425 : Index := Scalar.indexCast v304
  ![16, 0, v425.toNat]
def k0_off22 (k0_t2 : Fin k0_t2_loop.trips) : Fin 3 → Nat :=
  let c17_i32_257 : BitVec 32 := 17#32
  let v430 : Index := Scalar.indexCast c17_i32_257
  let c0_i32_258 : BitVec 32 := 0#32
  let v431 : Index := Scalar.indexCast c0_i32_258
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v432 : Index := Scalar.indexCast v304
  ![17, 0, v432.toNat]
def k0_off23 (k0_t2 : Fin k0_t2_loop.trips) : Fin 3 → Nat :=
  let c18_i32_259 : BitVec 32 := 18#32
  let v437 : Index := Scalar.indexCast c18_i32_259
  let c0_i32_260 : BitVec 32 := 0#32
  let v438 : Index := Scalar.indexCast c0_i32_260
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v439 : Index := Scalar.indexCast v304
  ![18, 0, v439.toNat]
def k0_off24 (k0_t2 : Fin k0_t2_loop.trips) : Fin 3 → Nat :=
  let c19_i32_261 : BitVec 32 := 19#32
  let v444 : Index := Scalar.indexCast c19_i32_261
  let c0_i32_262 : BitVec 32 := 0#32
  let v445 : Index := Scalar.indexCast c0_i32_262
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v446 : Index := Scalar.indexCast v304
  ![19, 0, v446.toNat]
def k0_off25 (k0_t2 : Fin k0_t2_loop.trips) : Fin 3 → Nat :=
  let c20_i32_263 : BitVec 32 := 20#32
  let v451 : Index := Scalar.indexCast c20_i32_263
  let c0_i32_264 : BitVec 32 := 0#32
  let v452 : Index := Scalar.indexCast c0_i32_264
  let c0_i32_214 : BitVec 32 := 0#32
  let c0_i32_90 : BitVec 32 := 0#32
  let c1_i32_92 : BitVec 32 := 1#32
  let arg13 : BitVec 32 := Scf.iv c0_i32_90 c1_i32_92 k0_t2
  let c16_i32_213 : BitVec 32 := 16#32
  let v303 : BitVec 32 := Scalar.muli arg13 c16_i32_213
  let v304 : BitVec 32 := Scalar.addi c0_i32_214 v303
  let v453 : Index := Scalar.indexCast v304
  ![20, 0, v453.toNat]
@[reducible] def k0_t3_loop : Scf.Loop 32 :=
  let c0_i32_94 : BitVec 32 := 0#32
  let c16_i32_95 : BitVec 32 := 16#32
  let v178 : BitVec 32 := Scalar.addi c0_i32_94 c16_i32_95
  let c1_i32_96 : BitVec 32 := 1#32
  ⟨c0_i32_94, v178, c1_i32_96⟩
def k0_off26 (k0_t3 : Fin k0_t3_loop.trips) : Fin 2 → Nat :=
  let c1_i32_215 : BitVec 32 := 1#32
  let v305 : Index := Scalar.indexCast c1_i32_215
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v306 : Index := Scalar.indexCast v304
  ![1, v306.toNat]
def k0_off27 (k0_t3 : Fin k0_t3_loop.trips) : Fin 3 → Nat :=
  let c0_i32_217 : BitVec 32 := 0#32
  let v311 : Index := Scalar.indexCast c0_i32_217
  let c1_i32_218 : BitVec 32 := 1#32
  let v312 : Index := Scalar.indexCast c1_i32_218
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v313 : Index := Scalar.indexCast v304
  ![0, 1, v313.toNat]
def k0_off28 (k0_t3 : Fin k0_t3_loop.trips) : Fin 3 → Nat :=
  let c1_i32_220 : BitVec 32 := 1#32
  let v318 : Index := Scalar.indexCast c1_i32_220
  let c1_i32_221 : BitVec 32 := 1#32
  let v319 : Index := Scalar.indexCast c1_i32_221
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v320 : Index := Scalar.indexCast v304
  ![1, 1, v320.toNat]
def k0_off29 (k0_t3 : Fin k0_t3_loop.trips) : Fin 3 → Nat :=
  let c2_i32_223 : BitVec 32 := 2#32
  let v325 : Index := Scalar.indexCast c2_i32_223
  let c1_i32_224 : BitVec 32 := 1#32
  let v326 : Index := Scalar.indexCast c1_i32_224
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v327 : Index := Scalar.indexCast v304
  ![2, 1, v327.toNat]
def k0_off30 (k0_t3 : Fin k0_t3_loop.trips) : Fin 3 → Nat :=
  let c3_i32_225 : BitVec 32 := 3#32
  let v332 : Index := Scalar.indexCast c3_i32_225
  let c1_i32_226 : BitVec 32 := 1#32
  let v333 : Index := Scalar.indexCast c1_i32_226
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v334 : Index := Scalar.indexCast v304
  ![3, 1, v334.toNat]
def k0_off31 (k0_t3 : Fin k0_t3_loop.trips) : Fin 3 → Nat :=
  let c4_i32_228 : BitVec 32 := 4#32
  let v339 : Index := Scalar.indexCast c4_i32_228
  let c1_i32_229 : BitVec 32 := 1#32
  let v340 : Index := Scalar.indexCast c1_i32_229
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v341 : Index := Scalar.indexCast v304
  ![4, 1, v341.toNat]
def k0_off32 (k0_t3 : Fin k0_t3_loop.trips) : Fin 3 → Nat :=
  let c5_i32_230 : BitVec 32 := 5#32
  let v346 : Index := Scalar.indexCast c5_i32_230
  let c1_i32_231 : BitVec 32 := 1#32
  let v347 : Index := Scalar.indexCast c1_i32_231
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v348 : Index := Scalar.indexCast v304
  ![5, 1, v348.toNat]
def k0_off33 (k0_t3 : Fin k0_t3_loop.trips) : Fin 3 → Nat :=
  let c6_i32_232 : BitVec 32 := 6#32
  let v353 : Index := Scalar.indexCast c6_i32_232
  let c1_i32_233 : BitVec 32 := 1#32
  let v354 : Index := Scalar.indexCast c1_i32_233
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v355 : Index := Scalar.indexCast v304
  ![6, 1, v355.toNat]
def k0_off34 (k0_t3 : Fin k0_t3_loop.trips) : Fin 3 → Nat :=
  let c7_i32_234 : BitVec 32 := 7#32
  let v360 : Index := Scalar.indexCast c7_i32_234
  let c1_i32_235 : BitVec 32 := 1#32
  let v361 : Index := Scalar.indexCast c1_i32_235
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v362 : Index := Scalar.indexCast v304
  ![7, 1, v362.toNat]
def k0_off35 (k0_t3 : Fin k0_t3_loop.trips) : Fin 3 → Nat :=
  let c8_i32_237 : BitVec 32 := 8#32
  let v367 : Index := Scalar.indexCast c8_i32_237
  let c1_i32_238 : BitVec 32 := 1#32
  let v368 : Index := Scalar.indexCast c1_i32_238
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v369 : Index := Scalar.indexCast v304
  ![8, 1, v369.toNat]
def k0_off36 (k0_t3 : Fin k0_t3_loop.trips) : Fin 3 → Nat :=
  let c9_i32_239 : BitVec 32 := 9#32
  let v374 : Index := Scalar.indexCast c9_i32_239
  let c1_i32_240 : BitVec 32 := 1#32
  let v375 : Index := Scalar.indexCast c1_i32_240
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v376 : Index := Scalar.indexCast v304
  ![9, 1, v376.toNat]
def k0_off37 (k0_t3 : Fin k0_t3_loop.trips) : Fin 3 → Nat :=
  let c10_i32_241 : BitVec 32 := 10#32
  let v381 : Index := Scalar.indexCast c10_i32_241
  let c1_i32_242 : BitVec 32 := 1#32
  let v382 : Index := Scalar.indexCast c1_i32_242
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v383 : Index := Scalar.indexCast v304
  ![10, 1, v383.toNat]
def k0_off38 (k0_t3 : Fin k0_t3_loop.trips) : Fin 3 → Nat :=
  let c11_i32_243 : BitVec 32 := 11#32
  let v388 : Index := Scalar.indexCast c11_i32_243
  let c1_i32_244 : BitVec 32 := 1#32
  let v389 : Index := Scalar.indexCast c1_i32_244
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v390 : Index := Scalar.indexCast v304
  ![11, 1, v390.toNat]
def k0_off39 (k0_t3 : Fin k0_t3_loop.trips) : Fin 3 → Nat :=
  let c12_i32_245 : BitVec 32 := 12#32
  let v395 : Index := Scalar.indexCast c12_i32_245
  let c1_i32_246 : BitVec 32 := 1#32
  let v396 : Index := Scalar.indexCast c1_i32_246
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v397 : Index := Scalar.indexCast v304
  ![12, 1, v397.toNat]
def k0_off40 (k0_t3 : Fin k0_t3_loop.trips) : Fin 3 → Nat :=
  let c13_i32_247 : BitVec 32 := 13#32
  let v402 : Index := Scalar.indexCast c13_i32_247
  let c1_i32_248 : BitVec 32 := 1#32
  let v403 : Index := Scalar.indexCast c1_i32_248
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v404 : Index := Scalar.indexCast v304
  ![13, 1, v404.toNat]
def k0_off41 (k0_t3 : Fin k0_t3_loop.trips) : Fin 3 → Nat :=
  let c14_i32_249 : BitVec 32 := 14#32
  let v409 : Index := Scalar.indexCast c14_i32_249
  let c1_i32_250 : BitVec 32 := 1#32
  let v410 : Index := Scalar.indexCast c1_i32_250
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v411 : Index := Scalar.indexCast v304
  ![14, 1, v411.toNat]
def k0_off42 (k0_t3 : Fin k0_t3_loop.trips) : Fin 3 → Nat :=
  let c15_i32_252 : BitVec 32 := 15#32
  let v416 : Index := Scalar.indexCast c15_i32_252
  let c1_i32_253 : BitVec 32 := 1#32
  let v417 : Index := Scalar.indexCast c1_i32_253
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v418 : Index := Scalar.indexCast v304
  ![15, 1, v418.toNat]
def k0_off43 (k0_t3 : Fin k0_t3_loop.trips) : Fin 3 → Nat :=
  let c16_i32_255 : BitVec 32 := 16#32
  let v423 : Index := Scalar.indexCast c16_i32_255
  let c1_i32_256 : BitVec 32 := 1#32
  let v424 : Index := Scalar.indexCast c1_i32_256
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v425 : Index := Scalar.indexCast v304
  ![16, 1, v425.toNat]
def k0_off44 (k0_t3 : Fin k0_t3_loop.trips) : Fin 3 → Nat :=
  let c17_i32_257 : BitVec 32 := 17#32
  let v430 : Index := Scalar.indexCast c17_i32_257
  let c1_i32_258 : BitVec 32 := 1#32
  let v431 : Index := Scalar.indexCast c1_i32_258
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v432 : Index := Scalar.indexCast v304
  ![17, 1, v432.toNat]
def k0_off45 (k0_t3 : Fin k0_t3_loop.trips) : Fin 3 → Nat :=
  let c18_i32_259 : BitVec 32 := 18#32
  let v437 : Index := Scalar.indexCast c18_i32_259
  let c1_i32_260 : BitVec 32 := 1#32
  let v438 : Index := Scalar.indexCast c1_i32_260
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v439 : Index := Scalar.indexCast v304
  ![18, 1, v439.toNat]
def k0_off46 (k0_t3 : Fin k0_t3_loop.trips) : Fin 3 → Nat :=
  let c19_i32_261 : BitVec 32 := 19#32
  let v444 : Index := Scalar.indexCast c19_i32_261
  let c1_i32_262 : BitVec 32 := 1#32
  let v445 : Index := Scalar.indexCast c1_i32_262
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v446 : Index := Scalar.indexCast v304
  ![19, 1, v446.toNat]
def k0_off47 (k0_t3 : Fin k0_t3_loop.trips) : Fin 3 → Nat :=
  let c20_i32_263 : BitVec 32 := 20#32
  let v451 : Index := Scalar.indexCast c20_i32_263
  let c1_i32_264 : BitVec 32 := 1#32
  let v452 : Index := Scalar.indexCast c1_i32_264
  let c0_i32_214 : BitVec 32 := 0#32
  let c0_i32_94 : BitVec 32 := 0#32
  let c1_i32_96 : BitVec 32 := 1#32
  let arg13 : BitVec 32 := Scf.iv c0_i32_94 c1_i32_96 k0_t3
  let c16_i32_213 : BitVec 32 := 16#32
  let v303 : BitVec 32 := Scalar.muli arg13 c16_i32_213
  let v304 : BitVec 32 := Scalar.addi c0_i32_214 v303
  let v453 : Index := Scalar.indexCast v304
  ![20, 1, v453.toNat]
@[reducible] def k0_t4_loop : Scf.Loop 32 :=
  let c0_i32_98 : BitVec 32 := 0#32
  let c16_i32_99 : BitVec 32 := 16#32
  let v179 : BitVec 32 := Scalar.addi c0_i32_98 c16_i32_99
  let c1_i32_100 : BitVec 32 := 1#32
  ⟨c0_i32_98, v179, c1_i32_100⟩
def k0_off48 (k0_t4 : Fin k0_t4_loop.trips) : Fin 2 → Nat :=
  let c2_i32_215 : BitVec 32 := 2#32
  let v305 : Index := Scalar.indexCast c2_i32_215
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v306 : Index := Scalar.indexCast v304
  ![2, v306.toNat]
def k0_off49 (k0_t4 : Fin k0_t4_loop.trips) : Fin 3 → Nat :=
  let c0_i32_217 : BitVec 32 := 0#32
  let v311 : Index := Scalar.indexCast c0_i32_217
  let c2_i32_218 : BitVec 32 := 2#32
  let v312 : Index := Scalar.indexCast c2_i32_218
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v313 : Index := Scalar.indexCast v304
  ![0, 2, v313.toNat]
def k0_off50 (k0_t4 : Fin k0_t4_loop.trips) : Fin 3 → Nat :=
  let c1_i32_220 : BitVec 32 := 1#32
  let v318 : Index := Scalar.indexCast c1_i32_220
  let c2_i32_221 : BitVec 32 := 2#32
  let v319 : Index := Scalar.indexCast c2_i32_221
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v320 : Index := Scalar.indexCast v304
  ![1, 2, v320.toNat]
def k0_off51 (k0_t4 : Fin k0_t4_loop.trips) : Fin 3 → Nat :=
  let c2_i32_223 : BitVec 32 := 2#32
  let v325 : Index := Scalar.indexCast c2_i32_223
  let c2_i32_224 : BitVec 32 := 2#32
  let v326 : Index := Scalar.indexCast c2_i32_224
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v327 : Index := Scalar.indexCast v304
  ![2, 2, v327.toNat]
def k0_off52 (k0_t4 : Fin k0_t4_loop.trips) : Fin 3 → Nat :=
  let c3_i32_225 : BitVec 32 := 3#32
  let v332 : Index := Scalar.indexCast c3_i32_225
  let c2_i32_226 : BitVec 32 := 2#32
  let v333 : Index := Scalar.indexCast c2_i32_226
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v334 : Index := Scalar.indexCast v304
  ![3, 2, v334.toNat]
def k0_off53 (k0_t4 : Fin k0_t4_loop.trips) : Fin 3 → Nat :=
  let c4_i32_228 : BitVec 32 := 4#32
  let v339 : Index := Scalar.indexCast c4_i32_228
  let c2_i32_229 : BitVec 32 := 2#32
  let v340 : Index := Scalar.indexCast c2_i32_229
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v341 : Index := Scalar.indexCast v304
  ![4, 2, v341.toNat]
def k0_off54 (k0_t4 : Fin k0_t4_loop.trips) : Fin 3 → Nat :=
  let c5_i32_230 : BitVec 32 := 5#32
  let v346 : Index := Scalar.indexCast c5_i32_230
  let c2_i32_231 : BitVec 32 := 2#32
  let v347 : Index := Scalar.indexCast c2_i32_231
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v348 : Index := Scalar.indexCast v304
  ![5, 2, v348.toNat]
def k0_off55 (k0_t4 : Fin k0_t4_loop.trips) : Fin 3 → Nat :=
  let c6_i32_232 : BitVec 32 := 6#32
  let v353 : Index := Scalar.indexCast c6_i32_232
  let c2_i32_233 : BitVec 32 := 2#32
  let v354 : Index := Scalar.indexCast c2_i32_233
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v355 : Index := Scalar.indexCast v304
  ![6, 2, v355.toNat]
def k0_off56 (k0_t4 : Fin k0_t4_loop.trips) : Fin 3 → Nat :=
  let c7_i32_234 : BitVec 32 := 7#32
  let v360 : Index := Scalar.indexCast c7_i32_234
  let c2_i32_235 : BitVec 32 := 2#32
  let v361 : Index := Scalar.indexCast c2_i32_235
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v362 : Index := Scalar.indexCast v304
  ![7, 2, v362.toNat]
def k0_off57 (k0_t4 : Fin k0_t4_loop.trips) : Fin 3 → Nat :=
  let c8_i32_237 : BitVec 32 := 8#32
  let v367 : Index := Scalar.indexCast c8_i32_237
  let c2_i32_238 : BitVec 32 := 2#32
  let v368 : Index := Scalar.indexCast c2_i32_238
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v369 : Index := Scalar.indexCast v304
  ![8, 2, v369.toNat]
def k0_off58 (k0_t4 : Fin k0_t4_loop.trips) : Fin 3 → Nat :=
  let c9_i32_239 : BitVec 32 := 9#32
  let v374 : Index := Scalar.indexCast c9_i32_239
  let c2_i32_240 : BitVec 32 := 2#32
  let v375 : Index := Scalar.indexCast c2_i32_240
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v376 : Index := Scalar.indexCast v304
  ![9, 2, v376.toNat]
def k0_off59 (k0_t4 : Fin k0_t4_loop.trips) : Fin 3 → Nat :=
  let c10_i32_241 : BitVec 32 := 10#32
  let v381 : Index := Scalar.indexCast c10_i32_241
  let c2_i32_242 : BitVec 32 := 2#32
  let v382 : Index := Scalar.indexCast c2_i32_242
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v383 : Index := Scalar.indexCast v304
  ![10, 2, v383.toNat]
def k0_off60 (k0_t4 : Fin k0_t4_loop.trips) : Fin 3 → Nat :=
  let c11_i32_243 : BitVec 32 := 11#32
  let v388 : Index := Scalar.indexCast c11_i32_243
  let c2_i32_244 : BitVec 32 := 2#32
  let v389 : Index := Scalar.indexCast c2_i32_244
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v390 : Index := Scalar.indexCast v304
  ![11, 2, v390.toNat]
def k0_off61 (k0_t4 : Fin k0_t4_loop.trips) : Fin 3 → Nat :=
  let c12_i32_245 : BitVec 32 := 12#32
  let v395 : Index := Scalar.indexCast c12_i32_245
  let c2_i32_246 : BitVec 32 := 2#32
  let v396 : Index := Scalar.indexCast c2_i32_246
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v397 : Index := Scalar.indexCast v304
  ![12, 2, v397.toNat]
def k0_off62 (k0_t4 : Fin k0_t4_loop.trips) : Fin 3 → Nat :=
  let c13_i32_247 : BitVec 32 := 13#32
  let v402 : Index := Scalar.indexCast c13_i32_247
  let c2_i32_248 : BitVec 32 := 2#32
  let v403 : Index := Scalar.indexCast c2_i32_248
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v404 : Index := Scalar.indexCast v304
  ![13, 2, v404.toNat]
def k0_off63 (k0_t4 : Fin k0_t4_loop.trips) : Fin 3 → Nat :=
  let c14_i32_249 : BitVec 32 := 14#32
  let v409 : Index := Scalar.indexCast c14_i32_249
  let c2_i32_250 : BitVec 32 := 2#32
  let v410 : Index := Scalar.indexCast c2_i32_250
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v411 : Index := Scalar.indexCast v304
  ![14, 2, v411.toNat]
def k0_off64 (k0_t4 : Fin k0_t4_loop.trips) : Fin 3 → Nat :=
  let c15_i32_252 : BitVec 32 := 15#32
  let v416 : Index := Scalar.indexCast c15_i32_252
  let c2_i32_253 : BitVec 32 := 2#32
  let v417 : Index := Scalar.indexCast c2_i32_253
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v418 : Index := Scalar.indexCast v304
  ![15, 2, v418.toNat]
def k0_off65 (k0_t4 : Fin k0_t4_loop.trips) : Fin 3 → Nat :=
  let c16_i32_255 : BitVec 32 := 16#32
  let v423 : Index := Scalar.indexCast c16_i32_255
  let c2_i32_256 : BitVec 32 := 2#32
  let v424 : Index := Scalar.indexCast c2_i32_256
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v425 : Index := Scalar.indexCast v304
  ![16, 2, v425.toNat]
def k0_off66 (k0_t4 : Fin k0_t4_loop.trips) : Fin 3 → Nat :=
  let c17_i32_257 : BitVec 32 := 17#32
  let v430 : Index := Scalar.indexCast c17_i32_257
  let c2_i32_258 : BitVec 32 := 2#32
  let v431 : Index := Scalar.indexCast c2_i32_258
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v432 : Index := Scalar.indexCast v304
  ![17, 2, v432.toNat]
def k0_off67 (k0_t4 : Fin k0_t4_loop.trips) : Fin 3 → Nat :=
  let c18_i32_259 : BitVec 32 := 18#32
  let v437 : Index := Scalar.indexCast c18_i32_259
  let c2_i32_260 : BitVec 32 := 2#32
  let v438 : Index := Scalar.indexCast c2_i32_260
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v439 : Index := Scalar.indexCast v304
  ![18, 2, v439.toNat]
def k0_off68 (k0_t4 : Fin k0_t4_loop.trips) : Fin 3 → Nat :=
  let c19_i32_261 : BitVec 32 := 19#32
  let v444 : Index := Scalar.indexCast c19_i32_261
  let c2_i32_262 : BitVec 32 := 2#32
  let v445 : Index := Scalar.indexCast c2_i32_262
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v446 : Index := Scalar.indexCast v304
  ![19, 2, v446.toNat]
def k0_off69 (k0_t4 : Fin k0_t4_loop.trips) : Fin 3 → Nat :=
  let c20_i32_263 : BitVec 32 := 20#32
  let v451 : Index := Scalar.indexCast c20_i32_263
  let c2_i32_264 : BitVec 32 := 2#32
  let v452 : Index := Scalar.indexCast c2_i32_264
  let c0_i32_214 : BitVec 32 := 0#32
  let c0_i32_98 : BitVec 32 := 0#32
  let c1_i32_100 : BitVec 32 := 1#32
  let arg13 : BitVec 32 := Scf.iv c0_i32_98 c1_i32_100 k0_t4
  let c16_i32_213 : BitVec 32 := 16#32
  let v303 : BitVec 32 := Scalar.muli arg13 c16_i32_213
  let v304 : BitVec 32 := Scalar.addi c0_i32_214 v303
  let v453 : Index := Scalar.indexCast v304
  ![20, 2, v453.toNat]
@[reducible] def k0_t5_loop : Scf.Loop 32 :=
  let c0_i32_102 : BitVec 32 := 0#32
  let c16_i32_103 : BitVec 32 := 16#32
  let v180 : BitVec 32 := Scalar.addi c0_i32_102 c16_i32_103
  let c1_i32_104 : BitVec 32 := 1#32
  ⟨c0_i32_102, v180, c1_i32_104⟩
def k0_off70 (k0_t5 : Fin k0_t5_loop.trips) : Fin 2 → Nat :=
  let c3_i32 : BitVec 32 := 3#32
  let v305 : Index := Scalar.indexCast c3_i32
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v306 : Index := Scalar.indexCast v304
  ![3, v306.toNat]
def k0_off71 (k0_t5 : Fin k0_t5_loop.trips) : Fin 3 → Nat :=
  let c0_i32_216 : BitVec 32 := 0#32
  let v311 : Index := Scalar.indexCast c0_i32_216
  let c3_i32_217 : BitVec 32 := 3#32
  let v312 : Index := Scalar.indexCast c3_i32_217
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v313 : Index := Scalar.indexCast v304
  ![0, 3, v313.toNat]
def k0_off72 (k0_t5 : Fin k0_t5_loop.trips) : Fin 3 → Nat :=
  let c1_i32_219 : BitVec 32 := 1#32
  let v318 : Index := Scalar.indexCast c1_i32_219
  let c3_i32_220 : BitVec 32 := 3#32
  let v319 : Index := Scalar.indexCast c3_i32_220
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v320 : Index := Scalar.indexCast v304
  ![1, 3, v320.toNat]
def k0_off73 (k0_t5 : Fin k0_t5_loop.trips) : Fin 3 → Nat :=
  let c2_i32_222 : BitVec 32 := 2#32
  let v325 : Index := Scalar.indexCast c2_i32_222
  let c3_i32_223 : BitVec 32 := 3#32
  let v326 : Index := Scalar.indexCast c3_i32_223
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v327 : Index := Scalar.indexCast v304
  ![2, 3, v327.toNat]
def k0_off74 (k0_t5 : Fin k0_t5_loop.trips) : Fin 3 → Nat :=
  let c3_i32_225 : BitVec 32 := 3#32
  let v332 : Index := Scalar.indexCast c3_i32_225
  let c3_i32_226 : BitVec 32 := 3#32
  let v333 : Index := Scalar.indexCast c3_i32_226
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v334 : Index := Scalar.indexCast v304
  ![3, 3, v334.toNat]
def k0_off75 (k0_t5 : Fin k0_t5_loop.trips) : Fin 3 → Nat :=
  let c4_i32_228 : BitVec 32 := 4#32
  let v339 : Index := Scalar.indexCast c4_i32_228
  let c3_i32_229 : BitVec 32 := 3#32
  let v340 : Index := Scalar.indexCast c3_i32_229
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v341 : Index := Scalar.indexCast v304
  ![4, 3, v341.toNat]
def k0_off76 (k0_t5 : Fin k0_t5_loop.trips) : Fin 3 → Nat :=
  let c5_i32_230 : BitVec 32 := 5#32
  let v346 : Index := Scalar.indexCast c5_i32_230
  let c3_i32_231 : BitVec 32 := 3#32
  let v347 : Index := Scalar.indexCast c3_i32_231
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v348 : Index := Scalar.indexCast v304
  ![5, 3, v348.toNat]
def k0_off77 (k0_t5 : Fin k0_t5_loop.trips) : Fin 3 → Nat :=
  let c6_i32_232 : BitVec 32 := 6#32
  let v353 : Index := Scalar.indexCast c6_i32_232
  let c3_i32_233 : BitVec 32 := 3#32
  let v354 : Index := Scalar.indexCast c3_i32_233
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v355 : Index := Scalar.indexCast v304
  ![6, 3, v355.toNat]
def k0_off78 (k0_t5 : Fin k0_t5_loop.trips) : Fin 3 → Nat :=
  let c7_i32_234 : BitVec 32 := 7#32
  let v360 : Index := Scalar.indexCast c7_i32_234
  let c3_i32_235 : BitVec 32 := 3#32
  let v361 : Index := Scalar.indexCast c3_i32_235
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v362 : Index := Scalar.indexCast v304
  ![7, 3, v362.toNat]
def k0_off79 (k0_t5 : Fin k0_t5_loop.trips) : Fin 3 → Nat :=
  let c8_i32_237 : BitVec 32 := 8#32
  let v367 : Index := Scalar.indexCast c8_i32_237
  let c3_i32_238 : BitVec 32 := 3#32
  let v368 : Index := Scalar.indexCast c3_i32_238
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v369 : Index := Scalar.indexCast v304
  ![8, 3, v369.toNat]
def k0_off80 (k0_t5 : Fin k0_t5_loop.trips) : Fin 3 → Nat :=
  let c9_i32_239 : BitVec 32 := 9#32
  let v374 : Index := Scalar.indexCast c9_i32_239
  let c3_i32_240 : BitVec 32 := 3#32
  let v375 : Index := Scalar.indexCast c3_i32_240
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v376 : Index := Scalar.indexCast v304
  ![9, 3, v376.toNat]
def k0_off81 (k0_t5 : Fin k0_t5_loop.trips) : Fin 3 → Nat :=
  let c10_i32_241 : BitVec 32 := 10#32
  let v381 : Index := Scalar.indexCast c10_i32_241
  let c3_i32_242 : BitVec 32 := 3#32
  let v382 : Index := Scalar.indexCast c3_i32_242
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v383 : Index := Scalar.indexCast v304
  ![10, 3, v383.toNat]
def k0_off82 (k0_t5 : Fin k0_t5_loop.trips) : Fin 3 → Nat :=
  let c11_i32_243 : BitVec 32 := 11#32
  let v388 : Index := Scalar.indexCast c11_i32_243
  let c3_i32_244 : BitVec 32 := 3#32
  let v389 : Index := Scalar.indexCast c3_i32_244
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v390 : Index := Scalar.indexCast v304
  ![11, 3, v390.toNat]
def k0_off83 (k0_t5 : Fin k0_t5_loop.trips) : Fin 3 → Nat :=
  let c12_i32_245 : BitVec 32 := 12#32
  let v395 : Index := Scalar.indexCast c12_i32_245
  let c3_i32_246 : BitVec 32 := 3#32
  let v396 : Index := Scalar.indexCast c3_i32_246
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v397 : Index := Scalar.indexCast v304
  ![12, 3, v397.toNat]
def k0_off84 (k0_t5 : Fin k0_t5_loop.trips) : Fin 3 → Nat :=
  let c13_i32_247 : BitVec 32 := 13#32
  let v402 : Index := Scalar.indexCast c13_i32_247
  let c3_i32_248 : BitVec 32 := 3#32
  let v403 : Index := Scalar.indexCast c3_i32_248
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v404 : Index := Scalar.indexCast v304
  ![13, 3, v404.toNat]
def k0_off85 (k0_t5 : Fin k0_t5_loop.trips) : Fin 3 → Nat :=
  let c14_i32_249 : BitVec 32 := 14#32
  let v409 : Index := Scalar.indexCast c14_i32_249
  let c3_i32_250 : BitVec 32 := 3#32
  let v410 : Index := Scalar.indexCast c3_i32_250
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v411 : Index := Scalar.indexCast v304
  ![14, 3, v411.toNat]
def k0_off86 (k0_t5 : Fin k0_t5_loop.trips) : Fin 3 → Nat :=
  let c15_i32_252 : BitVec 32 := 15#32
  let v416 : Index := Scalar.indexCast c15_i32_252
  let c3_i32_253 : BitVec 32 := 3#32
  let v417 : Index := Scalar.indexCast c3_i32_253
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v418 : Index := Scalar.indexCast v304
  ![15, 3, v418.toNat]
def k0_off87 (k0_t5 : Fin k0_t5_loop.trips) : Fin 3 → Nat :=
  let c16_i32_255 : BitVec 32 := 16#32
  let v423 : Index := Scalar.indexCast c16_i32_255
  let c3_i32_256 : BitVec 32 := 3#32
  let v424 : Index := Scalar.indexCast c3_i32_256
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v425 : Index := Scalar.indexCast v304
  ![16, 3, v425.toNat]
def k0_off88 (k0_t5 : Fin k0_t5_loop.trips) : Fin 3 → Nat :=
  let c17_i32_257 : BitVec 32 := 17#32
  let v430 : Index := Scalar.indexCast c17_i32_257
  let c3_i32_258 : BitVec 32 := 3#32
  let v431 : Index := Scalar.indexCast c3_i32_258
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v432 : Index := Scalar.indexCast v304
  ![17, 3, v432.toNat]
def k0_off89 (k0_t5 : Fin k0_t5_loop.trips) : Fin 3 → Nat :=
  let c18_i32_259 : BitVec 32 := 18#32
  let v437 : Index := Scalar.indexCast c18_i32_259
  let c3_i32_260 : BitVec 32 := 3#32
  let v438 : Index := Scalar.indexCast c3_i32_260
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v439 : Index := Scalar.indexCast v304
  ![18, 3, v439.toNat]
def k0_off90 (k0_t5 : Fin k0_t5_loop.trips) : Fin 3 → Nat :=
  let c19_i32_261 : BitVec 32 := 19#32
  let v444 : Index := Scalar.indexCast c19_i32_261
  let c3_i32_262 : BitVec 32 := 3#32
  let v445 : Index := Scalar.indexCast c3_i32_262
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v446 : Index := Scalar.indexCast v304
  ![19, 3, v446.toNat]
def k0_off91 (k0_t5 : Fin k0_t5_loop.trips) : Fin 3 → Nat :=
  let c20_i32_263 : BitVec 32 := 20#32
  let v451 : Index := Scalar.indexCast c20_i32_263
  let c3_i32_264 : BitVec 32 := 3#32
  let v452 : Index := Scalar.indexCast c3_i32_264
  let c0_i32_214 : BitVec 32 := 0#32
  let c0_i32_102 : BitVec 32 := 0#32
  let c1_i32_104 : BitVec 32 := 1#32
  let arg13 : BitVec 32 := Scf.iv c0_i32_102 c1_i32_104 k0_t5
  let c16_i32_213 : BitVec 32 := 16#32
  let v303 : BitVec 32 := Scalar.muli arg13 c16_i32_213
  let v304 : BitVec 32 := Scalar.addi c0_i32_214 v303
  let v453 : Index := Scalar.indexCast v304
  ![20, 3, v453.toNat]
@[reducible] def k0_t6_loop : Scf.Loop 32 :=
  let c0_i32_106 : BitVec 32 := 0#32
  let c16_i32_107 : BitVec 32 := 16#32
  let v181 : BitVec 32 := Scalar.addi c0_i32_106 c16_i32_107
  let c1_i32_108 : BitVec 32 := 1#32
  ⟨c0_i32_106, v181, c1_i32_108⟩
def k0_off92 (k0_t6 : Fin k0_t6_loop.trips) : Fin 2 → Nat :=
  let c4_i32_215 : BitVec 32 := 4#32
  let v305 : Index := Scalar.indexCast c4_i32_215
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v306 : Index := Scalar.indexCast v304
  ![4, v306.toNat]
def k0_off93 (k0_t6 : Fin k0_t6_loop.trips) : Fin 3 → Nat :=
  let c0_i32_217 : BitVec 32 := 0#32
  let v311 : Index := Scalar.indexCast c0_i32_217
  let c4_i32_218 : BitVec 32 := 4#32
  let v312 : Index := Scalar.indexCast c4_i32_218
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v313 : Index := Scalar.indexCast v304
  ![0, 4, v313.toNat]
def k0_off94 (k0_t6 : Fin k0_t6_loop.trips) : Fin 3 → Nat :=
  let c1_i32_220 : BitVec 32 := 1#32
  let v318 : Index := Scalar.indexCast c1_i32_220
  let c4_i32_221 : BitVec 32 := 4#32
  let v319 : Index := Scalar.indexCast c4_i32_221
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v320 : Index := Scalar.indexCast v304
  ![1, 4, v320.toNat]
def k0_off95 (k0_t6 : Fin k0_t6_loop.trips) : Fin 3 → Nat :=
  let c2_i32_223 : BitVec 32 := 2#32
  let v325 : Index := Scalar.indexCast c2_i32_223
  let c4_i32_224 : BitVec 32 := 4#32
  let v326 : Index := Scalar.indexCast c4_i32_224
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v327 : Index := Scalar.indexCast v304
  ![2, 4, v327.toNat]
def k0_off96 (k0_t6 : Fin k0_t6_loop.trips) : Fin 3 → Nat :=
  let c3_i32_225 : BitVec 32 := 3#32
  let v332 : Index := Scalar.indexCast c3_i32_225
  let c4_i32_226 : BitVec 32 := 4#32
  let v333 : Index := Scalar.indexCast c4_i32_226
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v334 : Index := Scalar.indexCast v304
  ![3, 4, v334.toNat]
def k0_off97 (k0_t6 : Fin k0_t6_loop.trips) : Fin 3 → Nat :=
  let c4_i32_228 : BitVec 32 := 4#32
  let v339 : Index := Scalar.indexCast c4_i32_228
  let c4_i32_229 : BitVec 32 := 4#32
  let v340 : Index := Scalar.indexCast c4_i32_229
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v341 : Index := Scalar.indexCast v304
  ![4, 4, v341.toNat]
def k0_off98 (k0_t6 : Fin k0_t6_loop.trips) : Fin 3 → Nat :=
  let c5_i32_230 : BitVec 32 := 5#32
  let v346 : Index := Scalar.indexCast c5_i32_230
  let c4_i32_231 : BitVec 32 := 4#32
  let v347 : Index := Scalar.indexCast c4_i32_231
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v348 : Index := Scalar.indexCast v304
  ![5, 4, v348.toNat]
def k0_off99 (k0_t6 : Fin k0_t6_loop.trips) : Fin 3 → Nat :=
  let c6_i32_232 : BitVec 32 := 6#32
  let v353 : Index := Scalar.indexCast c6_i32_232
  let c4_i32_233 : BitVec 32 := 4#32
  let v354 : Index := Scalar.indexCast c4_i32_233
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v355 : Index := Scalar.indexCast v304
  ![6, 4, v355.toNat]
def k0_off100 (k0_t6 : Fin k0_t6_loop.trips) : Fin 3 → Nat :=
  let c7_i32_234 : BitVec 32 := 7#32
  let v360 : Index := Scalar.indexCast c7_i32_234
  let c4_i32_235 : BitVec 32 := 4#32
  let v361 : Index := Scalar.indexCast c4_i32_235
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v362 : Index := Scalar.indexCast v304
  ![7, 4, v362.toNat]
def k0_off101 (k0_t6 : Fin k0_t6_loop.trips) : Fin 3 → Nat :=
  let c8_i32_237 : BitVec 32 := 8#32
  let v367 : Index := Scalar.indexCast c8_i32_237
  let c4_i32_238 : BitVec 32 := 4#32
  let v368 : Index := Scalar.indexCast c4_i32_238
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v369 : Index := Scalar.indexCast v304
  ![8, 4, v369.toNat]
def k0_off102 (k0_t6 : Fin k0_t6_loop.trips) : Fin 3 → Nat :=
  let c9_i32_239 : BitVec 32 := 9#32
  let v374 : Index := Scalar.indexCast c9_i32_239
  let c4_i32_240 : BitVec 32 := 4#32
  let v375 : Index := Scalar.indexCast c4_i32_240
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v376 : Index := Scalar.indexCast v304
  ![9, 4, v376.toNat]
def k0_off103 (k0_t6 : Fin k0_t6_loop.trips) : Fin 3 → Nat :=
  let c10_i32_241 : BitVec 32 := 10#32
  let v381 : Index := Scalar.indexCast c10_i32_241
  let c4_i32_242 : BitVec 32 := 4#32
  let v382 : Index := Scalar.indexCast c4_i32_242
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v383 : Index := Scalar.indexCast v304
  ![10, 4, v383.toNat]
def k0_off104 (k0_t6 : Fin k0_t6_loop.trips) : Fin 3 → Nat :=
  let c11_i32_243 : BitVec 32 := 11#32
  let v388 : Index := Scalar.indexCast c11_i32_243
  let c4_i32_244 : BitVec 32 := 4#32
  let v389 : Index := Scalar.indexCast c4_i32_244
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v390 : Index := Scalar.indexCast v304
  ![11, 4, v390.toNat]
def k0_off105 (k0_t6 : Fin k0_t6_loop.trips) : Fin 3 → Nat :=
  let c12_i32_245 : BitVec 32 := 12#32
  let v395 : Index := Scalar.indexCast c12_i32_245
  let c4_i32_246 : BitVec 32 := 4#32
  let v396 : Index := Scalar.indexCast c4_i32_246
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v397 : Index := Scalar.indexCast v304
  ![12, 4, v397.toNat]
def k0_off106 (k0_t6 : Fin k0_t6_loop.trips) : Fin 3 → Nat :=
  let c13_i32_247 : BitVec 32 := 13#32
  let v402 : Index := Scalar.indexCast c13_i32_247
  let c4_i32_248 : BitVec 32 := 4#32
  let v403 : Index := Scalar.indexCast c4_i32_248
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v404 : Index := Scalar.indexCast v304
  ![13, 4, v404.toNat]
def k0_off107 (k0_t6 : Fin k0_t6_loop.trips) : Fin 3 → Nat :=
  let c14_i32_249 : BitVec 32 := 14#32
  let v409 : Index := Scalar.indexCast c14_i32_249
  let c4_i32_250 : BitVec 32 := 4#32
  let v410 : Index := Scalar.indexCast c4_i32_250
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v411 : Index := Scalar.indexCast v304
  ![14, 4, v411.toNat]
def k0_off108 (k0_t6 : Fin k0_t6_loop.trips) : Fin 3 → Nat :=
  let c15_i32_252 : BitVec 32 := 15#32
  let v416 : Index := Scalar.indexCast c15_i32_252
  let c4_i32_253 : BitVec 32 := 4#32
  let v417 : Index := Scalar.indexCast c4_i32_253
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v418 : Index := Scalar.indexCast v304
  ![15, 4, v418.toNat]
def k0_off109 (k0_t6 : Fin k0_t6_loop.trips) : Fin 3 → Nat :=
  let c16_i32_255 : BitVec 32 := 16#32
  let v423 : Index := Scalar.indexCast c16_i32_255
  let c4_i32_256 : BitVec 32 := 4#32
  let v424 : Index := Scalar.indexCast c4_i32_256
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v425 : Index := Scalar.indexCast v304
  ![16, 4, v425.toNat]
def k0_off110 (k0_t6 : Fin k0_t6_loop.trips) : Fin 3 → Nat :=
  let c17_i32_257 : BitVec 32 := 17#32
  let v430 : Index := Scalar.indexCast c17_i32_257
  let c4_i32_258 : BitVec 32 := 4#32
  let v431 : Index := Scalar.indexCast c4_i32_258
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v432 : Index := Scalar.indexCast v304
  ![17, 4, v432.toNat]
def k0_off111 (k0_t6 : Fin k0_t6_loop.trips) : Fin 3 → Nat :=
  let c18_i32_259 : BitVec 32 := 18#32
  let v437 : Index := Scalar.indexCast c18_i32_259
  let c4_i32_260 : BitVec 32 := 4#32
  let v438 : Index := Scalar.indexCast c4_i32_260
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v439 : Index := Scalar.indexCast v304
  ![18, 4, v439.toNat]
def k0_off112 (k0_t6 : Fin k0_t6_loop.trips) : Fin 3 → Nat :=
  let c19_i32_261 : BitVec 32 := 19#32
  let v444 : Index := Scalar.indexCast c19_i32_261
  let c4_i32_262 : BitVec 32 := 4#32
  let v445 : Index := Scalar.indexCast c4_i32_262
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v446 : Index := Scalar.indexCast v304
  ![19, 4, v446.toNat]
def k0_off113 (k0_t6 : Fin k0_t6_loop.trips) : Fin 3 → Nat :=
  let c20_i32_263 : BitVec 32 := 20#32
  let v451 : Index := Scalar.indexCast c20_i32_263
  let c4_i32_264 : BitVec 32 := 4#32
  let v452 : Index := Scalar.indexCast c4_i32_264
  let c0_i32_214 : BitVec 32 := 0#32
  let c0_i32_106 : BitVec 32 := 0#32
  let c1_i32_108 : BitVec 32 := 1#32
  let arg13 : BitVec 32 := Scf.iv c0_i32_106 c1_i32_108 k0_t6
  let c16_i32_213 : BitVec 32 := 16#32
  let v303 : BitVec 32 := Scalar.muli arg13 c16_i32_213
  let v304 : BitVec 32 := Scalar.addi c0_i32_214 v303
  let v453 : Index := Scalar.indexCast v304
  ![20, 4, v453.toNat]
@[reducible] def k0_t7_loop : Scf.Loop 32 :=
  let c0_i32_110 : BitVec 32 := 0#32
  let c16_i32_111 : BitVec 32 := 16#32
  let v182 : BitVec 32 := Scalar.addi c0_i32_110 c16_i32_111
  let c1_i32_112 : BitVec 32 := 1#32
  ⟨c0_i32_110, v182, c1_i32_112⟩
def k0_off114 (k0_t7 : Fin k0_t7_loop.trips) : Fin 2 → Nat :=
  let c5_i32 : BitVec 32 := 5#32
  let v305 : Index := Scalar.indexCast c5_i32
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v306 : Index := Scalar.indexCast v304
  ![5, v306.toNat]
def k0_off115 (k0_t7 : Fin k0_t7_loop.trips) : Fin 3 → Nat :=
  let c0_i32_216 : BitVec 32 := 0#32
  let v311 : Index := Scalar.indexCast c0_i32_216
  let c5_i32_217 : BitVec 32 := 5#32
  let v312 : Index := Scalar.indexCast c5_i32_217
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v313 : Index := Scalar.indexCast v304
  ![0, 5, v313.toNat]
def k0_off116 (k0_t7 : Fin k0_t7_loop.trips) : Fin 3 → Nat :=
  let c1_i32_219 : BitVec 32 := 1#32
  let v318 : Index := Scalar.indexCast c1_i32_219
  let c5_i32_220 : BitVec 32 := 5#32
  let v319 : Index := Scalar.indexCast c5_i32_220
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v320 : Index := Scalar.indexCast v304
  ![1, 5, v320.toNat]
def k0_off117 (k0_t7 : Fin k0_t7_loop.trips) : Fin 3 → Nat :=
  let c2_i32_222 : BitVec 32 := 2#32
  let v325 : Index := Scalar.indexCast c2_i32_222
  let c5_i32_223 : BitVec 32 := 5#32
  let v326 : Index := Scalar.indexCast c5_i32_223
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v327 : Index := Scalar.indexCast v304
  ![2, 5, v327.toNat]
def k0_off118 (k0_t7 : Fin k0_t7_loop.trips) : Fin 3 → Nat :=
  let c3_i32_224 : BitVec 32 := 3#32
  let v332 : Index := Scalar.indexCast c3_i32_224
  let c5_i32_225 : BitVec 32 := 5#32
  let v333 : Index := Scalar.indexCast c5_i32_225
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v334 : Index := Scalar.indexCast v304
  ![3, 5, v334.toNat]
def k0_off119 (k0_t7 : Fin k0_t7_loop.trips) : Fin 3 → Nat :=
  let c4_i32_227 : BitVec 32 := 4#32
  let v339 : Index := Scalar.indexCast c4_i32_227
  let c5_i32_228 : BitVec 32 := 5#32
  let v340 : Index := Scalar.indexCast c5_i32_228
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v341 : Index := Scalar.indexCast v304
  ![4, 5, v341.toNat]
def k0_off120 (k0_t7 : Fin k0_t7_loop.trips) : Fin 3 → Nat :=
  let c5_i32_230 : BitVec 32 := 5#32
  let v346 : Index := Scalar.indexCast c5_i32_230
  let c5_i32_231 : BitVec 32 := 5#32
  let v347 : Index := Scalar.indexCast c5_i32_231
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v348 : Index := Scalar.indexCast v304
  ![5, 5, v348.toNat]
def k0_off121 (k0_t7 : Fin k0_t7_loop.trips) : Fin 3 → Nat :=
  let c6_i32_232 : BitVec 32 := 6#32
  let v353 : Index := Scalar.indexCast c6_i32_232
  let c5_i32_233 : BitVec 32 := 5#32
  let v354 : Index := Scalar.indexCast c5_i32_233
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v355 : Index := Scalar.indexCast v304
  ![6, 5, v355.toNat]
def k0_off122 (k0_t7 : Fin k0_t7_loop.trips) : Fin 3 → Nat :=
  let c7_i32_234 : BitVec 32 := 7#32
  let v360 : Index := Scalar.indexCast c7_i32_234
  let c5_i32_235 : BitVec 32 := 5#32
  let v361 : Index := Scalar.indexCast c5_i32_235
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v362 : Index := Scalar.indexCast v304
  ![7, 5, v362.toNat]
def k0_off123 (k0_t7 : Fin k0_t7_loop.trips) : Fin 3 → Nat :=
  let c8_i32_237 : BitVec 32 := 8#32
  let v367 : Index := Scalar.indexCast c8_i32_237
  let c5_i32_238 : BitVec 32 := 5#32
  let v368 : Index := Scalar.indexCast c5_i32_238
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v369 : Index := Scalar.indexCast v304
  ![8, 5, v369.toNat]
def k0_off124 (k0_t7 : Fin k0_t7_loop.trips) : Fin 3 → Nat :=
  let c9_i32_239 : BitVec 32 := 9#32
  let v374 : Index := Scalar.indexCast c9_i32_239
  let c5_i32_240 : BitVec 32 := 5#32
  let v375 : Index := Scalar.indexCast c5_i32_240
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v376 : Index := Scalar.indexCast v304
  ![9, 5, v376.toNat]
def k0_off125 (k0_t7 : Fin k0_t7_loop.trips) : Fin 3 → Nat :=
  let c10_i32_241 : BitVec 32 := 10#32
  let v381 : Index := Scalar.indexCast c10_i32_241
  let c5_i32_242 : BitVec 32 := 5#32
  let v382 : Index := Scalar.indexCast c5_i32_242
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v383 : Index := Scalar.indexCast v304
  ![10, 5, v383.toNat]
def k0_off126 (k0_t7 : Fin k0_t7_loop.trips) : Fin 3 → Nat :=
  let c11_i32_243 : BitVec 32 := 11#32
  let v388 : Index := Scalar.indexCast c11_i32_243
  let c5_i32_244 : BitVec 32 := 5#32
  let v389 : Index := Scalar.indexCast c5_i32_244
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v390 : Index := Scalar.indexCast v304
  ![11, 5, v390.toNat]
def k0_off127 (k0_t7 : Fin k0_t7_loop.trips) : Fin 3 → Nat :=
  let c12_i32_245 : BitVec 32 := 12#32
  let v395 : Index := Scalar.indexCast c12_i32_245
  let c5_i32_246 : BitVec 32 := 5#32
  let v396 : Index := Scalar.indexCast c5_i32_246
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v397 : Index := Scalar.indexCast v304
  ![12, 5, v397.toNat]
def k0_off128 (k0_t7 : Fin k0_t7_loop.trips) : Fin 3 → Nat :=
  let c13_i32_247 : BitVec 32 := 13#32
  let v402 : Index := Scalar.indexCast c13_i32_247
  let c5_i32_248 : BitVec 32 := 5#32
  let v403 : Index := Scalar.indexCast c5_i32_248
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v404 : Index := Scalar.indexCast v304
  ![13, 5, v404.toNat]
def k0_off129 (k0_t7 : Fin k0_t7_loop.trips) : Fin 3 → Nat :=
  let c14_i32_249 : BitVec 32 := 14#32
  let v409 : Index := Scalar.indexCast c14_i32_249
  let c5_i32_250 : BitVec 32 := 5#32
  let v410 : Index := Scalar.indexCast c5_i32_250
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v411 : Index := Scalar.indexCast v304
  ![14, 5, v411.toNat]
def k0_off130 (k0_t7 : Fin k0_t7_loop.trips) : Fin 3 → Nat :=
  let c15_i32_252 : BitVec 32 := 15#32
  let v416 : Index := Scalar.indexCast c15_i32_252
  let c5_i32_253 : BitVec 32 := 5#32
  let v417 : Index := Scalar.indexCast c5_i32_253
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v418 : Index := Scalar.indexCast v304
  ![15, 5, v418.toNat]
def k0_off131 (k0_t7 : Fin k0_t7_loop.trips) : Fin 3 → Nat :=
  let c16_i32_255 : BitVec 32 := 16#32
  let v423 : Index := Scalar.indexCast c16_i32_255
  let c5_i32_256 : BitVec 32 := 5#32
  let v424 : Index := Scalar.indexCast c5_i32_256
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v425 : Index := Scalar.indexCast v304
  ![16, 5, v425.toNat]
def k0_off132 (k0_t7 : Fin k0_t7_loop.trips) : Fin 3 → Nat :=
  let c17_i32_257 : BitVec 32 := 17#32
  let v430 : Index := Scalar.indexCast c17_i32_257
  let c5_i32_258 : BitVec 32 := 5#32
  let v431 : Index := Scalar.indexCast c5_i32_258
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v432 : Index := Scalar.indexCast v304
  ![17, 5, v432.toNat]
def k0_off133 (k0_t7 : Fin k0_t7_loop.trips) : Fin 3 → Nat :=
  let c18_i32_259 : BitVec 32 := 18#32
  let v437 : Index := Scalar.indexCast c18_i32_259
  let c5_i32_260 : BitVec 32 := 5#32
  let v438 : Index := Scalar.indexCast c5_i32_260
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v439 : Index := Scalar.indexCast v304
  ![18, 5, v439.toNat]
def k0_off134 (k0_t7 : Fin k0_t7_loop.trips) : Fin 3 → Nat :=
  let c19_i32_261 : BitVec 32 := 19#32
  let v444 : Index := Scalar.indexCast c19_i32_261
  let c5_i32_262 : BitVec 32 := 5#32
  let v445 : Index := Scalar.indexCast c5_i32_262
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v446 : Index := Scalar.indexCast v304
  ![19, 5, v446.toNat]
def k0_off135 (k0_t7 : Fin k0_t7_loop.trips) : Fin 3 → Nat :=
  let c20_i32_263 : BitVec 32 := 20#32
  let v451 : Index := Scalar.indexCast c20_i32_263
  let c5_i32_264 : BitVec 32 := 5#32
  let v452 : Index := Scalar.indexCast c5_i32_264
  let c0_i32_214 : BitVec 32 := 0#32
  let c0_i32_110 : BitVec 32 := 0#32
  let c1_i32_112 : BitVec 32 := 1#32
  let arg13 : BitVec 32 := Scf.iv c0_i32_110 c1_i32_112 k0_t7
  let c16_i32_213 : BitVec 32 := 16#32
  let v303 : BitVec 32 := Scalar.muli arg13 c16_i32_213
  let v304 : BitVec 32 := Scalar.addi c0_i32_214 v303
  let v453 : Index := Scalar.indexCast v304
  ![20, 5, v453.toNat]
@[reducible] def k0_t8_loop : Scf.Loop 32 :=
  let c0_i32_114 : BitVec 32 := 0#32
  let c16_i32_115 : BitVec 32 := 16#32
  let v183 : BitVec 32 := Scalar.addi c0_i32_114 c16_i32_115
  let c1_i32_116 : BitVec 32 := 1#32
  ⟨c0_i32_114, v183, c1_i32_116⟩
def k0_off136 (k0_t8 : Fin k0_t8_loop.trips) : Fin 2 → Nat :=
  let c6_i32 : BitVec 32 := 6#32
  let v305 : Index := Scalar.indexCast c6_i32
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v306 : Index := Scalar.indexCast v304
  ![6, v306.toNat]
def k0_off137 (k0_t8 : Fin k0_t8_loop.trips) : Fin 3 → Nat :=
  let c0_i32_216 : BitVec 32 := 0#32
  let v311 : Index := Scalar.indexCast c0_i32_216
  let c6_i32_217 : BitVec 32 := 6#32
  let v312 : Index := Scalar.indexCast c6_i32_217
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v313 : Index := Scalar.indexCast v304
  ![0, 6, v313.toNat]
def k0_off138 (k0_t8 : Fin k0_t8_loop.trips) : Fin 3 → Nat :=
  let c1_i32_219 : BitVec 32 := 1#32
  let v318 : Index := Scalar.indexCast c1_i32_219
  let c6_i32_220 : BitVec 32 := 6#32
  let v319 : Index := Scalar.indexCast c6_i32_220
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v320 : Index := Scalar.indexCast v304
  ![1, 6, v320.toNat]
def k0_off139 (k0_t8 : Fin k0_t8_loop.trips) : Fin 3 → Nat :=
  let c2_i32_222 : BitVec 32 := 2#32
  let v325 : Index := Scalar.indexCast c2_i32_222
  let c6_i32_223 : BitVec 32 := 6#32
  let v326 : Index := Scalar.indexCast c6_i32_223
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v327 : Index := Scalar.indexCast v304
  ![2, 6, v327.toNat]
def k0_off140 (k0_t8 : Fin k0_t8_loop.trips) : Fin 3 → Nat :=
  let c3_i32_224 : BitVec 32 := 3#32
  let v332 : Index := Scalar.indexCast c3_i32_224
  let c6_i32_225 : BitVec 32 := 6#32
  let v333 : Index := Scalar.indexCast c6_i32_225
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v334 : Index := Scalar.indexCast v304
  ![3, 6, v334.toNat]
def k0_off141 (k0_t8 : Fin k0_t8_loop.trips) : Fin 3 → Nat :=
  let c4_i32_227 : BitVec 32 := 4#32
  let v339 : Index := Scalar.indexCast c4_i32_227
  let c6_i32_228 : BitVec 32 := 6#32
  let v340 : Index := Scalar.indexCast c6_i32_228
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v341 : Index := Scalar.indexCast v304
  ![4, 6, v341.toNat]
def k0_off142 (k0_t8 : Fin k0_t8_loop.trips) : Fin 3 → Nat :=
  let c5_i32_229 : BitVec 32 := 5#32
  let v346 : Index := Scalar.indexCast c5_i32_229
  let c6_i32_230 : BitVec 32 := 6#32
  let v347 : Index := Scalar.indexCast c6_i32_230
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v348 : Index := Scalar.indexCast v304
  ![5, 6, v348.toNat]
def k0_off143 (k0_t8 : Fin k0_t8_loop.trips) : Fin 3 → Nat :=
  let c6_i32_232 : BitVec 32 := 6#32
  let v353 : Index := Scalar.indexCast c6_i32_232
  let c6_i32_233 : BitVec 32 := 6#32
  let v354 : Index := Scalar.indexCast c6_i32_233
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v355 : Index := Scalar.indexCast v304
  ![6, 6, v355.toNat]
def k0_off144 (k0_t8 : Fin k0_t8_loop.trips) : Fin 3 → Nat :=
  let c7_i32_234 : BitVec 32 := 7#32
  let v360 : Index := Scalar.indexCast c7_i32_234
  let c6_i32_235 : BitVec 32 := 6#32
  let v361 : Index := Scalar.indexCast c6_i32_235
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v362 : Index := Scalar.indexCast v304
  ![7, 6, v362.toNat]
def k0_off145 (k0_t8 : Fin k0_t8_loop.trips) : Fin 3 → Nat :=
  let c8_i32_237 : BitVec 32 := 8#32
  let v367 : Index := Scalar.indexCast c8_i32_237
  let c6_i32_238 : BitVec 32 := 6#32
  let v368 : Index := Scalar.indexCast c6_i32_238
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v369 : Index := Scalar.indexCast v304
  ![8, 6, v369.toNat]
def k0_off146 (k0_t8 : Fin k0_t8_loop.trips) : Fin 3 → Nat :=
  let c9_i32_239 : BitVec 32 := 9#32
  let v374 : Index := Scalar.indexCast c9_i32_239
  let c6_i32_240 : BitVec 32 := 6#32
  let v375 : Index := Scalar.indexCast c6_i32_240
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v376 : Index := Scalar.indexCast v304
  ![9, 6, v376.toNat]
def k0_off147 (k0_t8 : Fin k0_t8_loop.trips) : Fin 3 → Nat :=
  let c10_i32_241 : BitVec 32 := 10#32
  let v381 : Index := Scalar.indexCast c10_i32_241
  let c6_i32_242 : BitVec 32 := 6#32
  let v382 : Index := Scalar.indexCast c6_i32_242
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v383 : Index := Scalar.indexCast v304
  ![10, 6, v383.toNat]
def k0_off148 (k0_t8 : Fin k0_t8_loop.trips) : Fin 3 → Nat :=
  let c11_i32_243 : BitVec 32 := 11#32
  let v388 : Index := Scalar.indexCast c11_i32_243
  let c6_i32_244 : BitVec 32 := 6#32
  let v389 : Index := Scalar.indexCast c6_i32_244
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v390 : Index := Scalar.indexCast v304
  ![11, 6, v390.toNat]
def k0_off149 (k0_t8 : Fin k0_t8_loop.trips) : Fin 3 → Nat :=
  let c12_i32_245 : BitVec 32 := 12#32
  let v395 : Index := Scalar.indexCast c12_i32_245
  let c6_i32_246 : BitVec 32 := 6#32
  let v396 : Index := Scalar.indexCast c6_i32_246
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v397 : Index := Scalar.indexCast v304
  ![12, 6, v397.toNat]
def k0_off150 (k0_t8 : Fin k0_t8_loop.trips) : Fin 3 → Nat :=
  let c13_i32_247 : BitVec 32 := 13#32
  let v402 : Index := Scalar.indexCast c13_i32_247
  let c6_i32_248 : BitVec 32 := 6#32
  let v403 : Index := Scalar.indexCast c6_i32_248
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v404 : Index := Scalar.indexCast v304
  ![13, 6, v404.toNat]
def k0_off151 (k0_t8 : Fin k0_t8_loop.trips) : Fin 3 → Nat :=
  let c14_i32_249 : BitVec 32 := 14#32
  let v409 : Index := Scalar.indexCast c14_i32_249
  let c6_i32_250 : BitVec 32 := 6#32
  let v410 : Index := Scalar.indexCast c6_i32_250
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v411 : Index := Scalar.indexCast v304
  ![14, 6, v411.toNat]
def k0_off152 (k0_t8 : Fin k0_t8_loop.trips) : Fin 3 → Nat :=
  let c15_i32_252 : BitVec 32 := 15#32
  let v416 : Index := Scalar.indexCast c15_i32_252
  let c6_i32_253 : BitVec 32 := 6#32
  let v417 : Index := Scalar.indexCast c6_i32_253
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v418 : Index := Scalar.indexCast v304
  ![15, 6, v418.toNat]
def k0_off153 (k0_t8 : Fin k0_t8_loop.trips) : Fin 3 → Nat :=
  let c16_i32_255 : BitVec 32 := 16#32
  let v423 : Index := Scalar.indexCast c16_i32_255
  let c6_i32_256 : BitVec 32 := 6#32
  let v424 : Index := Scalar.indexCast c6_i32_256
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v425 : Index := Scalar.indexCast v304
  ![16, 6, v425.toNat]
def k0_off154 (k0_t8 : Fin k0_t8_loop.trips) : Fin 3 → Nat :=
  let c17_i32_257 : BitVec 32 := 17#32
  let v430 : Index := Scalar.indexCast c17_i32_257
  let c6_i32_258 : BitVec 32 := 6#32
  let v431 : Index := Scalar.indexCast c6_i32_258
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v432 : Index := Scalar.indexCast v304
  ![17, 6, v432.toNat]
def k0_off155 (k0_t8 : Fin k0_t8_loop.trips) : Fin 3 → Nat :=
  let c18_i32_259 : BitVec 32 := 18#32
  let v437 : Index := Scalar.indexCast c18_i32_259
  let c6_i32_260 : BitVec 32 := 6#32
  let v438 : Index := Scalar.indexCast c6_i32_260
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v439 : Index := Scalar.indexCast v304
  ![18, 6, v439.toNat]
def k0_off156 (k0_t8 : Fin k0_t8_loop.trips) : Fin 3 → Nat :=
  let c19_i32_261 : BitVec 32 := 19#32
  let v444 : Index := Scalar.indexCast c19_i32_261
  let c6_i32_262 : BitVec 32 := 6#32
  let v445 : Index := Scalar.indexCast c6_i32_262
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v446 : Index := Scalar.indexCast v304
  ![19, 6, v446.toNat]
def k0_off157 (k0_t8 : Fin k0_t8_loop.trips) : Fin 3 → Nat :=
  let c20_i32_263 : BitVec 32 := 20#32
  let v451 : Index := Scalar.indexCast c20_i32_263
  let c6_i32_264 : BitVec 32 := 6#32
  let v452 : Index := Scalar.indexCast c6_i32_264
  let c0_i32_214 : BitVec 32 := 0#32
  let c0_i32_114 : BitVec 32 := 0#32
  let c1_i32_116 : BitVec 32 := 1#32
  let arg13 : BitVec 32 := Scf.iv c0_i32_114 c1_i32_116 k0_t8
  let c16_i32_213 : BitVec 32 := 16#32
  let v303 : BitVec 32 := Scalar.muli arg13 c16_i32_213
  let v304 : BitVec 32 := Scalar.addi c0_i32_214 v303
  let v453 : Index := Scalar.indexCast v304
  ![20, 6, v453.toNat]
@[reducible] def k0_t9_loop : Scf.Loop 32 :=
  let c0_i32_118 : BitVec 32 := 0#32
  let c16_i32_119 : BitVec 32 := 16#32
  let v184 : BitVec 32 := Scalar.addi c0_i32_118 c16_i32_119
  let c1_i32_120 : BitVec 32 := 1#32
  ⟨c0_i32_118, v184, c1_i32_120⟩
def k0_off158 (k0_t9 : Fin k0_t9_loop.trips) : Fin 2 → Nat :=
  let c7_i32 : BitVec 32 := 7#32
  let v305 : Index := Scalar.indexCast c7_i32
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v306 : Index := Scalar.indexCast v304
  ![7, v306.toNat]
def k0_off159 (k0_t9 : Fin k0_t9_loop.trips) : Fin 3 → Nat :=
  let c0_i32_216 : BitVec 32 := 0#32
  let v311 : Index := Scalar.indexCast c0_i32_216
  let c7_i32_217 : BitVec 32 := 7#32
  let v312 : Index := Scalar.indexCast c7_i32_217
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v313 : Index := Scalar.indexCast v304
  ![0, 7, v313.toNat]
def k0_off160 (k0_t9 : Fin k0_t9_loop.trips) : Fin 3 → Nat :=
  let c1_i32_219 : BitVec 32 := 1#32
  let v318 : Index := Scalar.indexCast c1_i32_219
  let c7_i32_220 : BitVec 32 := 7#32
  let v319 : Index := Scalar.indexCast c7_i32_220
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v320 : Index := Scalar.indexCast v304
  ![1, 7, v320.toNat]
def k0_off161 (k0_t9 : Fin k0_t9_loop.trips) : Fin 3 → Nat :=
  let c2_i32_222 : BitVec 32 := 2#32
  let v325 : Index := Scalar.indexCast c2_i32_222
  let c7_i32_223 : BitVec 32 := 7#32
  let v326 : Index := Scalar.indexCast c7_i32_223
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v327 : Index := Scalar.indexCast v304
  ![2, 7, v327.toNat]
def k0_off162 (k0_t9 : Fin k0_t9_loop.trips) : Fin 3 → Nat :=
  let c3_i32_224 : BitVec 32 := 3#32
  let v332 : Index := Scalar.indexCast c3_i32_224
  let c7_i32_225 : BitVec 32 := 7#32
  let v333 : Index := Scalar.indexCast c7_i32_225
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v334 : Index := Scalar.indexCast v304
  ![3, 7, v334.toNat]
def k0_off163 (k0_t9 : Fin k0_t9_loop.trips) : Fin 3 → Nat :=
  let c4_i32_227 : BitVec 32 := 4#32
  let v339 : Index := Scalar.indexCast c4_i32_227
  let c7_i32_228 : BitVec 32 := 7#32
  let v340 : Index := Scalar.indexCast c7_i32_228
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v341 : Index := Scalar.indexCast v304
  ![4, 7, v341.toNat]
def k0_off164 (k0_t9 : Fin k0_t9_loop.trips) : Fin 3 → Nat :=
  let c5_i32_229 : BitVec 32 := 5#32
  let v346 : Index := Scalar.indexCast c5_i32_229
  let c7_i32_230 : BitVec 32 := 7#32
  let v347 : Index := Scalar.indexCast c7_i32_230
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v348 : Index := Scalar.indexCast v304
  ![5, 7, v348.toNat]
def k0_off165 (k0_t9 : Fin k0_t9_loop.trips) : Fin 3 → Nat :=
  let c6_i32_231 : BitVec 32 := 6#32
  let v353 : Index := Scalar.indexCast c6_i32_231
  let c7_i32_232 : BitVec 32 := 7#32
  let v354 : Index := Scalar.indexCast c7_i32_232
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v355 : Index := Scalar.indexCast v304
  ![6, 7, v355.toNat]
def k0_off166 (k0_t9 : Fin k0_t9_loop.trips) : Fin 3 → Nat :=
  let c7_i32_234 : BitVec 32 := 7#32
  let v360 : Index := Scalar.indexCast c7_i32_234
  let c7_i32_235 : BitVec 32 := 7#32
  let v361 : Index := Scalar.indexCast c7_i32_235
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v362 : Index := Scalar.indexCast v304
  ![7, 7, v362.toNat]
def k0_off167 (k0_t9 : Fin k0_t9_loop.trips) : Fin 3 → Nat :=
  let c8_i32_237 : BitVec 32 := 8#32
  let v367 : Index := Scalar.indexCast c8_i32_237
  let c7_i32_238 : BitVec 32 := 7#32
  let v368 : Index := Scalar.indexCast c7_i32_238
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v369 : Index := Scalar.indexCast v304
  ![8, 7, v369.toNat]
def k0_off168 (k0_t9 : Fin k0_t9_loop.trips) : Fin 3 → Nat :=
  let c9_i32_239 : BitVec 32 := 9#32
  let v374 : Index := Scalar.indexCast c9_i32_239
  let c7_i32_240 : BitVec 32 := 7#32
  let v375 : Index := Scalar.indexCast c7_i32_240
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v376 : Index := Scalar.indexCast v304
  ![9, 7, v376.toNat]
def k0_off169 (k0_t9 : Fin k0_t9_loop.trips) : Fin 3 → Nat :=
  let c10_i32_241 : BitVec 32 := 10#32
  let v381 : Index := Scalar.indexCast c10_i32_241
  let c7_i32_242 : BitVec 32 := 7#32
  let v382 : Index := Scalar.indexCast c7_i32_242
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v383 : Index := Scalar.indexCast v304
  ![10, 7, v383.toNat]
def k0_off170 (k0_t9 : Fin k0_t9_loop.trips) : Fin 3 → Nat :=
  let c11_i32_243 : BitVec 32 := 11#32
  let v388 : Index := Scalar.indexCast c11_i32_243
  let c7_i32_244 : BitVec 32 := 7#32
  let v389 : Index := Scalar.indexCast c7_i32_244
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v390 : Index := Scalar.indexCast v304
  ![11, 7, v390.toNat]
def k0_off171 (k0_t9 : Fin k0_t9_loop.trips) : Fin 3 → Nat :=
  let c12_i32_245 : BitVec 32 := 12#32
  let v395 : Index := Scalar.indexCast c12_i32_245
  let c7_i32_246 : BitVec 32 := 7#32
  let v396 : Index := Scalar.indexCast c7_i32_246
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v397 : Index := Scalar.indexCast v304
  ![12, 7, v397.toNat]
def k0_off172 (k0_t9 : Fin k0_t9_loop.trips) : Fin 3 → Nat :=
  let c13_i32_247 : BitVec 32 := 13#32
  let v402 : Index := Scalar.indexCast c13_i32_247
  let c7_i32_248 : BitVec 32 := 7#32
  let v403 : Index := Scalar.indexCast c7_i32_248
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v404 : Index := Scalar.indexCast v304
  ![13, 7, v404.toNat]
def k0_off173 (k0_t9 : Fin k0_t9_loop.trips) : Fin 3 → Nat :=
  let c14_i32_249 : BitVec 32 := 14#32
  let v409 : Index := Scalar.indexCast c14_i32_249
  let c7_i32_250 : BitVec 32 := 7#32
  let v410 : Index := Scalar.indexCast c7_i32_250
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v411 : Index := Scalar.indexCast v304
  ![14, 7, v411.toNat]
def k0_off174 (k0_t9 : Fin k0_t9_loop.trips) : Fin 3 → Nat :=
  let c15_i32_252 : BitVec 32 := 15#32
  let v416 : Index := Scalar.indexCast c15_i32_252
  let c7_i32_253 : BitVec 32 := 7#32
  let v417 : Index := Scalar.indexCast c7_i32_253
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v418 : Index := Scalar.indexCast v304
  ![15, 7, v418.toNat]
def k0_off175 (k0_t9 : Fin k0_t9_loop.trips) : Fin 3 → Nat :=
  let c16_i32_255 : BitVec 32 := 16#32
  let v423 : Index := Scalar.indexCast c16_i32_255
  let c7_i32_256 : BitVec 32 := 7#32
  let v424 : Index := Scalar.indexCast c7_i32_256
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v425 : Index := Scalar.indexCast v304
  ![16, 7, v425.toNat]
def k0_off176 (k0_t9 : Fin k0_t9_loop.trips) : Fin 3 → Nat :=
  let c17_i32_257 : BitVec 32 := 17#32
  let v430 : Index := Scalar.indexCast c17_i32_257
  let c7_i32_258 : BitVec 32 := 7#32
  let v431 : Index := Scalar.indexCast c7_i32_258
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v432 : Index := Scalar.indexCast v304
  ![17, 7, v432.toNat]
def k0_off177 (k0_t9 : Fin k0_t9_loop.trips) : Fin 3 → Nat :=
  let c18_i32_259 : BitVec 32 := 18#32
  let v437 : Index := Scalar.indexCast c18_i32_259
  let c7_i32_260 : BitVec 32 := 7#32
  let v438 : Index := Scalar.indexCast c7_i32_260
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v439 : Index := Scalar.indexCast v304
  ![18, 7, v439.toNat]
def k0_off178 (k0_t9 : Fin k0_t9_loop.trips) : Fin 3 → Nat :=
  let c19_i32_261 : BitVec 32 := 19#32
  let v444 : Index := Scalar.indexCast c19_i32_261
  let c7_i32_262 : BitVec 32 := 7#32
  let v445 : Index := Scalar.indexCast c7_i32_262
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v446 : Index := Scalar.indexCast v304
  ![19, 7, v446.toNat]
def k0_off179 (k0_t9 : Fin k0_t9_loop.trips) : Fin 3 → Nat :=
  let c20_i32_263 : BitVec 32 := 20#32
  let v451 : Index := Scalar.indexCast c20_i32_263
  let c7_i32_264 : BitVec 32 := 7#32
  let v452 : Index := Scalar.indexCast c7_i32_264
  let c0_i32_214 : BitVec 32 := 0#32
  let c0_i32_118 : BitVec 32 := 0#32
  let c1_i32_120 : BitVec 32 := 1#32
  let arg13 : BitVec 32 := Scf.iv c0_i32_118 c1_i32_120 k0_t9
  let c16_i32_213 : BitVec 32 := 16#32
  let v303 : BitVec 32 := Scalar.muli arg13 c16_i32_213
  let v304 : BitVec 32 := Scalar.addi c0_i32_214 v303
  let v453 : Index := Scalar.indexCast v304
  ![20, 7, v453.toNat]
def k0_off180 (i : grid0.Coords) (k0_t1 : Fin k0_t1_loop.trips) (c0_i32_71 : BitVec 32) : Fin 3 → Nat :=
  let c0_i32_138 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let v185 : BitVec 32 := Scalar.muli v1 c32_i32_122
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_70 : BitVec 32 := 2#32
  let v139 : BitVec 32 := Scalar.muli v138 c2_i32_70
  let v140 : BitVec 32 := Scalar.addi v139 c0_i32_71
  let v186 : BitVec 32 := Scalar.addi v185 v140
  let c0_i32_124 : BitVec 32 := 0#32
  let v188 : BitVec 1 := Scalar.cmpi .sgt v186 c0_i32_124
  let v189 : BitVec 32 := Scalar.extui v188
  let c0_i32_125 : BitVec 32 := 0#32
  let v190 : BitVec 1 := Scalar.cmpi .slt v186 c0_i32_125
  let v191 : BitVec 32 := Scalar.extui v190
  let v192 : BitVec 32 := Scalar.subi v189 v191
  let c4_i32_123 : BitVec 32 := 4#32
  let c0_i32_126 : BitVec 32 := 0#32
  let v193 : BitVec 1 := Scalar.cmpi .sgt c4_i32_123 c0_i32_126
  let v194 : BitVec 32 := Scalar.extui v193
  let c0_i32_127 : BitVec 32 := 0#32
  let v195 : BitVec 1 := Scalar.cmpi .slt c4_i32_123 c0_i32_127
  let v196 : BitVec 32 := Scalar.extui v195
  let v197 : BitVec 32 := Scalar.subi v194 v196
  let v198 : BitVec 1 := Scalar.cmpi .ne v192 v197
  let v199 : BitVec 32 := Scalar.remsi v186 c4_i32_123
  let c0_i32_128 : BitVec 32 := 0#32
  let v200 : BitVec 1 := Scalar.cmpi .ne v199 c0_i32_128
  let v201 : BitVec 1 := Scalar.andi v198 v200
  let v187 : BitVec 32 := Scalar.divsi v186 c4_i32_123
  let c1_i32_129 : BitVec 32 := 1#32
  let v202 : BitVec 32 := Scalar.subi v187 c1_i32_129
  let v203 : BitVec 32 := Scalar.select v201 v202 v187
  let c8_i32_130 : BitVec 32 := 8#32
  let v204 : BitVec 32 := Scalar.muli v203 c8_i32_130
  let c4_i32_131 : BitVec 32 := 4#32
  let c0_i32_132 : BitVec 32 := 0#32
  let v205 : BitVec 1 := Scalar.cmpi .eq c4_i32_131 c0_i32_132
  let c1_i32_133 : BitVec 32 := 1#32
  let v206 : BitVec 32 := Scalar.select v205 c1_i32_133 c4_i32_131
  let v207 : BitVec 32 := Scalar.remsi v186 v206
  let c0_i32_135 : BitVec 32 := 0#32
  let v209 : BitVec 1 := Scalar.cmpi .slt v207 c0_i32_135
  let c0_i32_136 : BitVec 32 := 0#32
  let v210 : BitVec 1 := Scalar.cmpi .slt v206 c0_i32_136
  let v211 : BitVec 1 := Scalar.xori v209 v210
  let c0_i32_134 : BitVec 32 := 0#32
  let v208 : BitVec 1 := Scalar.cmpi .ne v207 c0_i32_134
  let v212 : BitVec 1 := Scalar.andi v211 v208
  let v213 : BitVec 32 := Scalar.addi v207 v206
  let v214 : BitVec 32 := Scalar.select v212 v213 v207
  let c256_i32_137 : BitVec 32 := 256#32
  let v215 : BitVec 32 := Scalar.muli v214 c256_i32_137
  ![0, v204.toNat, v215.toNat]
def k0_cond2 (k0_t1 : Fin k0_t1_loop.trips) : BitVec 1 :=
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c15_i32 : BitVec 32 := 15#32
  let v218 : BitVec 1 := Scalar.cmpi .slt v138 c15_i32
  let v219 : BitVec 32 := Scalar.extui v218
  let c0_i32_140 : BitVec 32 := 0#32
  let v220 : BitVec 1 := Scalar.cmpi .ne v219 c0_i32_140
  v220

def k0_off181 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_214 : BitVec 32 := 32#32
  let v304 : BitVec 32 := Scalar.muli v1 c32_i32_214
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_70 : BitVec 32 := 2#32
  let v139 : BitVec 32 := Scalar.muli v138 c2_i32_70
  let c0_i32_71 : BitVec 32 := 0#32
  let v140 : BitVec 32 := Scalar.addi v139 c0_i32_71
  let c2_i32_213 : BitVec 32 := 2#32
  let v303 : BitVec 32 := Scalar.addi v140 c2_i32_213
  let v305 : BitVec 32 := Scalar.addi v304 v303
  let c0_i32_216 : BitVec 32 := 0#32
  let v307 : BitVec 1 := Scalar.cmpi .sgt v305 c0_i32_216
  let v308 : BitVec 32 := Scalar.extui v307
  let c0_i32_217 : BitVec 32 := 0#32
  let v309 : BitVec 1 := Scalar.cmpi .slt v305 c0_i32_217
  let v310 : BitVec 32 := Scalar.extui v309
  let v311 : BitVec 32 := Scalar.subi v308 v310
  let c4_i32_215 : BitVec 32 := 4#32
  let c0_i32_218 : BitVec 32 := 0#32
  let v312 : BitVec 1 := Scalar.cmpi .sgt c4_i32_215 c0_i32_218
  let v313 : BitVec 32 := Scalar.extui v312
  let c0_i32_219 : BitVec 32 := 0#32
  let v314 : BitVec 1 := Scalar.cmpi .slt c4_i32_215 c0_i32_219
  let v315 : BitVec 32 := Scalar.extui v314
  let v316 : BitVec 32 := Scalar.subi v313 v315
  let v317 : BitVec 1 := Scalar.cmpi .ne v311 v316
  let v318 : BitVec 32 := Scalar.remsi v305 c4_i32_215
  let c0_i32_220 : BitVec 32 := 0#32
  let v319 : BitVec 1 := Scalar.cmpi .ne v318 c0_i32_220
  let v320 : BitVec 1 := Scalar.andi v317 v319
  let v306 : BitVec 32 := Scalar.divsi v305 c4_i32_215
  let c1_i32_221 : BitVec 32 := 1#32
  let v321 : BitVec 32 := Scalar.subi v306 c1_i32_221
  let v322 : BitVec 32 := Scalar.select v320 v321 v306
  let c8_i32_222 : BitVec 32 := 8#32
  let v323 : BitVec 32 := Scalar.muli v322 c8_i32_222
  let c4_i32_223 : BitVec 32 := 4#32
  let c0_i32_224 : BitVec 32 := 0#32
  let v324 : BitVec 1 := Scalar.cmpi .eq c4_i32_223 c0_i32_224
  let c1_i32_225 : BitVec 32 := 1#32
  let v325 : BitVec 32 := Scalar.select v324 c1_i32_225 c4_i32_223
  let v326 : BitVec 32 := Scalar.remsi v305 v325
  let c0_i32_227 : BitVec 32 := 0#32
  let v328 : BitVec 1 := Scalar.cmpi .slt v326 c0_i32_227
  let c0_i32_228 : BitVec 32 := 0#32
  let v329 : BitVec 1 := Scalar.cmpi .slt v325 c0_i32_228
  let v330 : BitVec 1 := Scalar.xori v328 v329
  let c0_i32_226 : BitVec 32 := 0#32
  let v327 : BitVec 1 := Scalar.cmpi .ne v326 c0_i32_226
  let v331 : BitVec 1 := Scalar.andi v330 v327
  let v332 : BitVec 32 := Scalar.addi v326 v325
  let v333 : BitVec 32 := Scalar.select v331 v332 v326
  let c256_i32_229 : BitVec 32 := 256#32
  let v334 : BitVec 32 := Scalar.muli v333 c256_i32_229
  ![v323.toNat, v334.toNat]
def k0_cond3 (k0_t1 : Fin k0_t1_loop.trips) : BitVec 1 :=
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c0_i32_143 : BitVec 32 := 0#32
  let v223 : BitVec 1 := Scalar.cmpi .sgt v138 c0_i32_143
  let v224 : BitVec 32 := Scalar.extui v223
  let c0_i32_144 : BitVec 32 := 0#32
  let v225 : BitVec 1 := Scalar.cmpi .ne v224 c0_i32_144
  v225

def k0_off182 (i : grid0.Coords) (k0_t1 : Fin k0_t1_loop.trips) : Fin 3 → Nat :=
  let c0_i32_229 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_213 : BitVec 32 := 32#32
  let v303 : BitVec 32 := Scalar.muli v1 c32_i32_213
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_141 : BitVec 32 := 2#32
  let v221 : BitVec 32 := Scalar.muli v138 c2_i32_141
  let c1_i32_142 : BitVec 32 := 1#32
  let v222 : BitVec 32 := Scalar.addi v221 c1_i32_142
  let v304 : BitVec 32 := Scalar.addi v303 v222
  let c0_i32_215 : BitVec 32 := 0#32
  let v306 : BitVec 1 := Scalar.cmpi .sgt v304 c0_i32_215
  let v307 : BitVec 32 := Scalar.extui v306
  let c0_i32_216 : BitVec 32 := 0#32
  let v308 : BitVec 1 := Scalar.cmpi .slt v304 c0_i32_216
  let v309 : BitVec 32 := Scalar.extui v308
  let v310 : BitVec 32 := Scalar.subi v307 v309
  let c4_i32_214 : BitVec 32 := 4#32
  let c0_i32_217 : BitVec 32 := 0#32
  let v311 : BitVec 1 := Scalar.cmpi .sgt c4_i32_214 c0_i32_217
  let v312 : BitVec 32 := Scalar.extui v311
  let c0_i32_218 : BitVec 32 := 0#32
  let v313 : BitVec 1 := Scalar.cmpi .slt c4_i32_214 c0_i32_218
  let v314 : BitVec 32 := Scalar.extui v313
  let v315 : BitVec 32 := Scalar.subi v312 v314
  let v316 : BitVec 1 := Scalar.cmpi .ne v310 v315
  let v317 : BitVec 32 := Scalar.remsi v304 c4_i32_214
  let c0_i32_219 : BitVec 32 := 0#32
  let v318 : BitVec 1 := Scalar.cmpi .ne v317 c0_i32_219
  let v319 : BitVec 1 := Scalar.andi v316 v318
  let v305 : BitVec 32 := Scalar.divsi v304 c4_i32_214
  let c1_i32_220 : BitVec 32 := 1#32
  let v320 : BitVec 32 := Scalar.subi v305 c1_i32_220
  let v321 : BitVec 32 := Scalar.select v319 v320 v305
  let c8_i32_221 : BitVec 32 := 8#32
  let v322 : BitVec 32 := Scalar.muli v321 c8_i32_221
  let c4_i32_222 : BitVec 32 := 4#32
  let c0_i32_223 : BitVec 32 := 0#32
  let v323 : BitVec 1 := Scalar.cmpi .eq c4_i32_222 c0_i32_223
  let c1_i32_224 : BitVec 32 := 1#32
  let v324 : BitVec 32 := Scalar.select v323 c1_i32_224 c4_i32_222
  let v325 : BitVec 32 := Scalar.remsi v304 v324
  let c0_i32_226 : BitVec 32 := 0#32
  let v327 : BitVec 1 := Scalar.cmpi .slt v325 c0_i32_226
  let c0_i32_227 : BitVec 32 := 0#32
  let v328 : BitVec 1 := Scalar.cmpi .slt v324 c0_i32_227
  let v329 : BitVec 1 := Scalar.xori v327 v328
  let c0_i32_225 : BitVec 32 := 0#32
  let v326 : BitVec 1 := Scalar.cmpi .ne v325 c0_i32_225
  let v330 : BitVec 1 := Scalar.andi v329 v326
  let v331 : BitVec 32 := Scalar.addi v325 v324
  let v332 : BitVec 32 := Scalar.select v330 v331 v325
  let c256_i32_228 : BitVec 32 := 256#32
  let v333 : BitVec 32 := Scalar.muli v332 c256_i32_228
  ![0, v322.toNat, v333.toNat]
@[reducible] def k0_t10_loop : Scf.Loop 32 :=
  let c0_i32_161 : BitVec 32 := 0#32
  let c16_i32_162 : BitVec 32 := 16#32
  let v259 : BitVec 32 := Scalar.addi c0_i32_161 c16_i32_162
  let c1_i32_163 : BitVec 32 := 1#32
  ⟨c0_i32_161, v259, c1_i32_163⟩
def k0_off183 (k0_t10 : Fin k0_t10_loop.trips) : Fin 2 → Nat :=
  let c0_i32_215 : BitVec 32 := 0#32
  let v305 : Index := Scalar.indexCast c0_i32_215
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v306 : Index := Scalar.indexCast v304
  ![0, v306.toNat]
def k0_off184 (k0_t10 : Fin k0_t10_loop.trips) : Fin 3 → Nat :=
  let c0_i32_217 : BitVec 32 := 0#32
  let v311 : Index := Scalar.indexCast c0_i32_217
  let c0_i32_218 : BitVec 32 := 0#32
  let v312 : Index := Scalar.indexCast c0_i32_218
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v313 : Index := Scalar.indexCast v304
  ![0, 0, v313.toNat]
def k0_off185 (k0_t10 : Fin k0_t10_loop.trips) : Fin 3 → Nat :=
  let c1_i32_220 : BitVec 32 := 1#32
  let v318 : Index := Scalar.indexCast c1_i32_220
  let c0_i32_221 : BitVec 32 := 0#32
  let v319 : Index := Scalar.indexCast c0_i32_221
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v320 : Index := Scalar.indexCast v304
  ![1, 0, v320.toNat]
def k0_off186 (k0_t10 : Fin k0_t10_loop.trips) : Fin 3 → Nat :=
  let c2_i32_223 : BitVec 32 := 2#32
  let v325 : Index := Scalar.indexCast c2_i32_223
  let c0_i32_224 : BitVec 32 := 0#32
  let v326 : Index := Scalar.indexCast c0_i32_224
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v327 : Index := Scalar.indexCast v304
  ![2, 0, v327.toNat]
def k0_off187 (k0_t10 : Fin k0_t10_loop.trips) : Fin 3 → Nat :=
  let c3_i32_225 : BitVec 32 := 3#32
  let v332 : Index := Scalar.indexCast c3_i32_225
  let c0_i32_226 : BitVec 32 := 0#32
  let v333 : Index := Scalar.indexCast c0_i32_226
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v334 : Index := Scalar.indexCast v304
  ![3, 0, v334.toNat]
def k0_off188 (k0_t10 : Fin k0_t10_loop.trips) : Fin 3 → Nat :=
  let c4_i32_228 : BitVec 32 := 4#32
  let v339 : Index := Scalar.indexCast c4_i32_228
  let c0_i32_229 : BitVec 32 := 0#32
  let v340 : Index := Scalar.indexCast c0_i32_229
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v341 : Index := Scalar.indexCast v304
  ![4, 0, v341.toNat]
def k0_off189 (k0_t10 : Fin k0_t10_loop.trips) : Fin 3 → Nat :=
  let c5_i32_230 : BitVec 32 := 5#32
  let v346 : Index := Scalar.indexCast c5_i32_230
  let c0_i32_231 : BitVec 32 := 0#32
  let v347 : Index := Scalar.indexCast c0_i32_231
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v348 : Index := Scalar.indexCast v304
  ![5, 0, v348.toNat]
def k0_off190 (k0_t10 : Fin k0_t10_loop.trips) : Fin 3 → Nat :=
  let c6_i32_232 : BitVec 32 := 6#32
  let v353 : Index := Scalar.indexCast c6_i32_232
  let c0_i32_233 : BitVec 32 := 0#32
  let v354 : Index := Scalar.indexCast c0_i32_233
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v355 : Index := Scalar.indexCast v304
  ![6, 0, v355.toNat]
def k0_off191 (k0_t10 : Fin k0_t10_loop.trips) : Fin 3 → Nat :=
  let c7_i32_234 : BitVec 32 := 7#32
  let v360 : Index := Scalar.indexCast c7_i32_234
  let c0_i32_235 : BitVec 32 := 0#32
  let v361 : Index := Scalar.indexCast c0_i32_235
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v362 : Index := Scalar.indexCast v304
  ![7, 0, v362.toNat]
def k0_off192 (k0_t10 : Fin k0_t10_loop.trips) : Fin 3 → Nat :=
  let c8_i32_237 : BitVec 32 := 8#32
  let v367 : Index := Scalar.indexCast c8_i32_237
  let c0_i32_238 : BitVec 32 := 0#32
  let v368 : Index := Scalar.indexCast c0_i32_238
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v369 : Index := Scalar.indexCast v304
  ![8, 0, v369.toNat]
def k0_off193 (k0_t10 : Fin k0_t10_loop.trips) : Fin 3 → Nat :=
  let c9_i32_239 : BitVec 32 := 9#32
  let v374 : Index := Scalar.indexCast c9_i32_239
  let c0_i32_240 : BitVec 32 := 0#32
  let v375 : Index := Scalar.indexCast c0_i32_240
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v376 : Index := Scalar.indexCast v304
  ![9, 0, v376.toNat]
def k0_off194 (k0_t10 : Fin k0_t10_loop.trips) : Fin 3 → Nat :=
  let c10_i32_241 : BitVec 32 := 10#32
  let v381 : Index := Scalar.indexCast c10_i32_241
  let c0_i32_242 : BitVec 32 := 0#32
  let v382 : Index := Scalar.indexCast c0_i32_242
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v383 : Index := Scalar.indexCast v304
  ![10, 0, v383.toNat]
def k0_off195 (k0_t10 : Fin k0_t10_loop.trips) : Fin 3 → Nat :=
  let c11_i32_243 : BitVec 32 := 11#32
  let v388 : Index := Scalar.indexCast c11_i32_243
  let c0_i32_244 : BitVec 32 := 0#32
  let v389 : Index := Scalar.indexCast c0_i32_244
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v390 : Index := Scalar.indexCast v304
  ![11, 0, v390.toNat]
def k0_off196 (k0_t10 : Fin k0_t10_loop.trips) : Fin 3 → Nat :=
  let c12_i32_245 : BitVec 32 := 12#32
  let v395 : Index := Scalar.indexCast c12_i32_245
  let c0_i32_246 : BitVec 32 := 0#32
  let v396 : Index := Scalar.indexCast c0_i32_246
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v397 : Index := Scalar.indexCast v304
  ![12, 0, v397.toNat]
def k0_off197 (k0_t10 : Fin k0_t10_loop.trips) : Fin 3 → Nat :=
  let c13_i32_247 : BitVec 32 := 13#32
  let v402 : Index := Scalar.indexCast c13_i32_247
  let c0_i32_248 : BitVec 32 := 0#32
  let v403 : Index := Scalar.indexCast c0_i32_248
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v404 : Index := Scalar.indexCast v304
  ![13, 0, v404.toNat]
def k0_off198 (k0_t10 : Fin k0_t10_loop.trips) : Fin 3 → Nat :=
  let c14_i32_249 : BitVec 32 := 14#32
  let v409 : Index := Scalar.indexCast c14_i32_249
  let c0_i32_250 : BitVec 32 := 0#32
  let v410 : Index := Scalar.indexCast c0_i32_250
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v411 : Index := Scalar.indexCast v304
  ![14, 0, v411.toNat]
def k0_off199 (k0_t10 : Fin k0_t10_loop.trips) : Fin 3 → Nat :=
  let c15_i32_252 : BitVec 32 := 15#32
  let v416 : Index := Scalar.indexCast c15_i32_252
  let c0_i32_253 : BitVec 32 := 0#32
  let v417 : Index := Scalar.indexCast c0_i32_253
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v418 : Index := Scalar.indexCast v304
  ![15, 0, v418.toNat]
def k0_off200 (k0_t10 : Fin k0_t10_loop.trips) : Fin 3 → Nat :=
  let c16_i32_255 : BitVec 32 := 16#32
  let v423 : Index := Scalar.indexCast c16_i32_255
  let c0_i32_256 : BitVec 32 := 0#32
  let v424 : Index := Scalar.indexCast c0_i32_256
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v425 : Index := Scalar.indexCast v304
  ![16, 0, v425.toNat]
def k0_off201 (k0_t10 : Fin k0_t10_loop.trips) : Fin 3 → Nat :=
  let c17_i32_257 : BitVec 32 := 17#32
  let v430 : Index := Scalar.indexCast c17_i32_257
  let c0_i32_258 : BitVec 32 := 0#32
  let v431 : Index := Scalar.indexCast c0_i32_258
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v432 : Index := Scalar.indexCast v304
  ![17, 0, v432.toNat]
def k0_off202 (k0_t10 : Fin k0_t10_loop.trips) : Fin 3 → Nat :=
  let c18_i32_259 : BitVec 32 := 18#32
  let v437 : Index := Scalar.indexCast c18_i32_259
  let c0_i32_260 : BitVec 32 := 0#32
  let v438 : Index := Scalar.indexCast c0_i32_260
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v439 : Index := Scalar.indexCast v304
  ![18, 0, v439.toNat]
def k0_off203 (k0_t10 : Fin k0_t10_loop.trips) : Fin 3 → Nat :=
  let c19_i32_261 : BitVec 32 := 19#32
  let v444 : Index := Scalar.indexCast c19_i32_261
  let c0_i32_262 : BitVec 32 := 0#32
  let v445 : Index := Scalar.indexCast c0_i32_262
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v446 : Index := Scalar.indexCast v304
  ![19, 0, v446.toNat]
def k0_off204 (k0_t10 : Fin k0_t10_loop.trips) : Fin 3 → Nat :=
  let c20_i32_263 : BitVec 32 := 20#32
  let v451 : Index := Scalar.indexCast c20_i32_263
  let c0_i32_264 : BitVec 32 := 0#32
  let v452 : Index := Scalar.indexCast c0_i32_264
  let c0_i32_214 : BitVec 32 := 0#32
  let c0_i32_161 : BitVec 32 := 0#32
  let c1_i32_163 : BitVec 32 := 1#32
  let arg13 : BitVec 32 := Scf.iv c0_i32_161 c1_i32_163 k0_t10
  let c16_i32_213 : BitVec 32 := 16#32
  let v303 : BitVec 32 := Scalar.muli arg13 c16_i32_213
  let v304 : BitVec 32 := Scalar.addi c0_i32_214 v303
  let v453 : Index := Scalar.indexCast v304
  ![20, 0, v453.toNat]
@[reducible] def k0_t11_loop : Scf.Loop 32 :=
  let c0_i32_165 : BitVec 32 := 0#32
  let c16_i32_166 : BitVec 32 := 16#32
  let v260 : BitVec 32 := Scalar.addi c0_i32_165 c16_i32_166
  let c1_i32_167 : BitVec 32 := 1#32
  ⟨c0_i32_165, v260, c1_i32_167⟩
def k0_off205 (k0_t11 : Fin k0_t11_loop.trips) : Fin 2 → Nat :=
  let c1_i32_215 : BitVec 32 := 1#32
  let v305 : Index := Scalar.indexCast c1_i32_215
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v306 : Index := Scalar.indexCast v304
  ![1, v306.toNat]
def k0_off206 (k0_t11 : Fin k0_t11_loop.trips) : Fin 3 → Nat :=
  let c0_i32_217 : BitVec 32 := 0#32
  let v311 : Index := Scalar.indexCast c0_i32_217
  let c1_i32_218 : BitVec 32 := 1#32
  let v312 : Index := Scalar.indexCast c1_i32_218
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v313 : Index := Scalar.indexCast v304
  ![0, 1, v313.toNat]
def k0_off207 (k0_t11 : Fin k0_t11_loop.trips) : Fin 3 → Nat :=
  let c1_i32_220 : BitVec 32 := 1#32
  let v318 : Index := Scalar.indexCast c1_i32_220
  let c1_i32_221 : BitVec 32 := 1#32
  let v319 : Index := Scalar.indexCast c1_i32_221
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v320 : Index := Scalar.indexCast v304
  ![1, 1, v320.toNat]
def k0_off208 (k0_t11 : Fin k0_t11_loop.trips) : Fin 3 → Nat :=
  let c2_i32_223 : BitVec 32 := 2#32
  let v325 : Index := Scalar.indexCast c2_i32_223
  let c1_i32_224 : BitVec 32 := 1#32
  let v326 : Index := Scalar.indexCast c1_i32_224
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v327 : Index := Scalar.indexCast v304
  ![2, 1, v327.toNat]
def k0_off209 (k0_t11 : Fin k0_t11_loop.trips) : Fin 3 → Nat :=
  let c3_i32_225 : BitVec 32 := 3#32
  let v332 : Index := Scalar.indexCast c3_i32_225
  let c1_i32_226 : BitVec 32 := 1#32
  let v333 : Index := Scalar.indexCast c1_i32_226
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v334 : Index := Scalar.indexCast v304
  ![3, 1, v334.toNat]
def k0_off210 (k0_t11 : Fin k0_t11_loop.trips) : Fin 3 → Nat :=
  let c4_i32_228 : BitVec 32 := 4#32
  let v339 : Index := Scalar.indexCast c4_i32_228
  let c1_i32_229 : BitVec 32 := 1#32
  let v340 : Index := Scalar.indexCast c1_i32_229
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v341 : Index := Scalar.indexCast v304
  ![4, 1, v341.toNat]
def k0_off211 (k0_t11 : Fin k0_t11_loop.trips) : Fin 3 → Nat :=
  let c5_i32_230 : BitVec 32 := 5#32
  let v346 : Index := Scalar.indexCast c5_i32_230
  let c1_i32_231 : BitVec 32 := 1#32
  let v347 : Index := Scalar.indexCast c1_i32_231
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v348 : Index := Scalar.indexCast v304
  ![5, 1, v348.toNat]
def k0_off212 (k0_t11 : Fin k0_t11_loop.trips) : Fin 3 → Nat :=
  let c6_i32_232 : BitVec 32 := 6#32
  let v353 : Index := Scalar.indexCast c6_i32_232
  let c1_i32_233 : BitVec 32 := 1#32
  let v354 : Index := Scalar.indexCast c1_i32_233
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v355 : Index := Scalar.indexCast v304
  ![6, 1, v355.toNat]
def k0_off213 (k0_t11 : Fin k0_t11_loop.trips) : Fin 3 → Nat :=
  let c7_i32_234 : BitVec 32 := 7#32
  let v360 : Index := Scalar.indexCast c7_i32_234
  let c1_i32_235 : BitVec 32 := 1#32
  let v361 : Index := Scalar.indexCast c1_i32_235
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v362 : Index := Scalar.indexCast v304
  ![7, 1, v362.toNat]
def k0_off214 (k0_t11 : Fin k0_t11_loop.trips) : Fin 3 → Nat :=
  let c8_i32_237 : BitVec 32 := 8#32
  let v367 : Index := Scalar.indexCast c8_i32_237
  let c1_i32_238 : BitVec 32 := 1#32
  let v368 : Index := Scalar.indexCast c1_i32_238
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v369 : Index := Scalar.indexCast v304
  ![8, 1, v369.toNat]
def k0_off215 (k0_t11 : Fin k0_t11_loop.trips) : Fin 3 → Nat :=
  let c9_i32_239 : BitVec 32 := 9#32
  let v374 : Index := Scalar.indexCast c9_i32_239
  let c1_i32_240 : BitVec 32 := 1#32
  let v375 : Index := Scalar.indexCast c1_i32_240
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v376 : Index := Scalar.indexCast v304
  ![9, 1, v376.toNat]
def k0_off216 (k0_t11 : Fin k0_t11_loop.trips) : Fin 3 → Nat :=
  let c10_i32_241 : BitVec 32 := 10#32
  let v381 : Index := Scalar.indexCast c10_i32_241
  let c1_i32_242 : BitVec 32 := 1#32
  let v382 : Index := Scalar.indexCast c1_i32_242
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v383 : Index := Scalar.indexCast v304
  ![10, 1, v383.toNat]
def k0_off217 (k0_t11 : Fin k0_t11_loop.trips) : Fin 3 → Nat :=
  let c11_i32_243 : BitVec 32 := 11#32
  let v388 : Index := Scalar.indexCast c11_i32_243
  let c1_i32_244 : BitVec 32 := 1#32
  let v389 : Index := Scalar.indexCast c1_i32_244
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v390 : Index := Scalar.indexCast v304
  ![11, 1, v390.toNat]
def k0_off218 (k0_t11 : Fin k0_t11_loop.trips) : Fin 3 → Nat :=
  let c12_i32_245 : BitVec 32 := 12#32
  let v395 : Index := Scalar.indexCast c12_i32_245
  let c1_i32_246 : BitVec 32 := 1#32
  let v396 : Index := Scalar.indexCast c1_i32_246
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v397 : Index := Scalar.indexCast v304
  ![12, 1, v397.toNat]
def k0_off219 (k0_t11 : Fin k0_t11_loop.trips) : Fin 3 → Nat :=
  let c13_i32_247 : BitVec 32 := 13#32
  let v402 : Index := Scalar.indexCast c13_i32_247
  let c1_i32_248 : BitVec 32 := 1#32
  let v403 : Index := Scalar.indexCast c1_i32_248
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v404 : Index := Scalar.indexCast v304
  ![13, 1, v404.toNat]
def k0_off220 (k0_t11 : Fin k0_t11_loop.trips) : Fin 3 → Nat :=
  let c14_i32_249 : BitVec 32 := 14#32
  let v409 : Index := Scalar.indexCast c14_i32_249
  let c1_i32_250 : BitVec 32 := 1#32
  let v410 : Index := Scalar.indexCast c1_i32_250
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v411 : Index := Scalar.indexCast v304
  ![14, 1, v411.toNat]
def k0_off221 (k0_t11 : Fin k0_t11_loop.trips) : Fin 3 → Nat :=
  let c15_i32_252 : BitVec 32 := 15#32
  let v416 : Index := Scalar.indexCast c15_i32_252
  let c1_i32_253 : BitVec 32 := 1#32
  let v417 : Index := Scalar.indexCast c1_i32_253
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v418 : Index := Scalar.indexCast v304
  ![15, 1, v418.toNat]
def k0_off222 (k0_t11 : Fin k0_t11_loop.trips) : Fin 3 → Nat :=
  let c16_i32_255 : BitVec 32 := 16#32
  let v423 : Index := Scalar.indexCast c16_i32_255
  let c1_i32_256 : BitVec 32 := 1#32
  let v424 : Index := Scalar.indexCast c1_i32_256
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v425 : Index := Scalar.indexCast v304
  ![16, 1, v425.toNat]
def k0_off223 (k0_t11 : Fin k0_t11_loop.trips) : Fin 3 → Nat :=
  let c17_i32_257 : BitVec 32 := 17#32
  let v430 : Index := Scalar.indexCast c17_i32_257
  let c1_i32_258 : BitVec 32 := 1#32
  let v431 : Index := Scalar.indexCast c1_i32_258
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v432 : Index := Scalar.indexCast v304
  ![17, 1, v432.toNat]
def k0_off224 (k0_t11 : Fin k0_t11_loop.trips) : Fin 3 → Nat :=
  let c18_i32_259 : BitVec 32 := 18#32
  let v437 : Index := Scalar.indexCast c18_i32_259
  let c1_i32_260 : BitVec 32 := 1#32
  let v438 : Index := Scalar.indexCast c1_i32_260
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v439 : Index := Scalar.indexCast v304
  ![18, 1, v439.toNat]
def k0_off225 (k0_t11 : Fin k0_t11_loop.trips) : Fin 3 → Nat :=
  let c19_i32_261 : BitVec 32 := 19#32
  let v444 : Index := Scalar.indexCast c19_i32_261
  let c1_i32_262 : BitVec 32 := 1#32
  let v445 : Index := Scalar.indexCast c1_i32_262
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v446 : Index := Scalar.indexCast v304
  ![19, 1, v446.toNat]
def k0_off226 (k0_t11 : Fin k0_t11_loop.trips) : Fin 3 → Nat :=
  let c20_i32_263 : BitVec 32 := 20#32
  let v451 : Index := Scalar.indexCast c20_i32_263
  let c1_i32_264 : BitVec 32 := 1#32
  let v452 : Index := Scalar.indexCast c1_i32_264
  let c0_i32_214 : BitVec 32 := 0#32
  let c0_i32_165 : BitVec 32 := 0#32
  let c1_i32_167 : BitVec 32 := 1#32
  let arg13 : BitVec 32 := Scf.iv c0_i32_165 c1_i32_167 k0_t11
  let c16_i32_213 : BitVec 32 := 16#32
  let v303 : BitVec 32 := Scalar.muli arg13 c16_i32_213
  let v304 : BitVec 32 := Scalar.addi c0_i32_214 v303
  let v453 : Index := Scalar.indexCast v304
  ![20, 1, v453.toNat]
@[reducible] def k0_t12_loop : Scf.Loop 32 :=
  let c0_i32_169 : BitVec 32 := 0#32
  let c16_i32_170 : BitVec 32 := 16#32
  let v261 : BitVec 32 := Scalar.addi c0_i32_169 c16_i32_170
  let c1_i32_171 : BitVec 32 := 1#32
  ⟨c0_i32_169, v261, c1_i32_171⟩
def k0_off227 (k0_t12 : Fin k0_t12_loop.trips) : Fin 2 → Nat :=
  let c2_i32_215 : BitVec 32 := 2#32
  let v305 : Index := Scalar.indexCast c2_i32_215
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v306 : Index := Scalar.indexCast v304
  ![2, v306.toNat]
def k0_off228 (k0_t12 : Fin k0_t12_loop.trips) : Fin 3 → Nat :=
  let c0_i32_217 : BitVec 32 := 0#32
  let v311 : Index := Scalar.indexCast c0_i32_217
  let c2_i32_218 : BitVec 32 := 2#32
  let v312 : Index := Scalar.indexCast c2_i32_218
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v313 : Index := Scalar.indexCast v304
  ![0, 2, v313.toNat]
def k0_off229 (k0_t12 : Fin k0_t12_loop.trips) : Fin 3 → Nat :=
  let c1_i32_220 : BitVec 32 := 1#32
  let v318 : Index := Scalar.indexCast c1_i32_220
  let c2_i32_221 : BitVec 32 := 2#32
  let v319 : Index := Scalar.indexCast c2_i32_221
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v320 : Index := Scalar.indexCast v304
  ![1, 2, v320.toNat]
def k0_off230 (k0_t12 : Fin k0_t12_loop.trips) : Fin 3 → Nat :=
  let c2_i32_223 : BitVec 32 := 2#32
  let v325 : Index := Scalar.indexCast c2_i32_223
  let c2_i32_224 : BitVec 32 := 2#32
  let v326 : Index := Scalar.indexCast c2_i32_224
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v327 : Index := Scalar.indexCast v304
  ![2, 2, v327.toNat]
def k0_off231 (k0_t12 : Fin k0_t12_loop.trips) : Fin 3 → Nat :=
  let c3_i32_225 : BitVec 32 := 3#32
  let v332 : Index := Scalar.indexCast c3_i32_225
  let c2_i32_226 : BitVec 32 := 2#32
  let v333 : Index := Scalar.indexCast c2_i32_226
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v334 : Index := Scalar.indexCast v304
  ![3, 2, v334.toNat]
def k0_off232 (k0_t12 : Fin k0_t12_loop.trips) : Fin 3 → Nat :=
  let c4_i32_228 : BitVec 32 := 4#32
  let v339 : Index := Scalar.indexCast c4_i32_228
  let c2_i32_229 : BitVec 32 := 2#32
  let v340 : Index := Scalar.indexCast c2_i32_229
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v341 : Index := Scalar.indexCast v304
  ![4, 2, v341.toNat]
def k0_off233 (k0_t12 : Fin k0_t12_loop.trips) : Fin 3 → Nat :=
  let c5_i32_230 : BitVec 32 := 5#32
  let v346 : Index := Scalar.indexCast c5_i32_230
  let c2_i32_231 : BitVec 32 := 2#32
  let v347 : Index := Scalar.indexCast c2_i32_231
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v348 : Index := Scalar.indexCast v304
  ![5, 2, v348.toNat]
def k0_off234 (k0_t12 : Fin k0_t12_loop.trips) : Fin 3 → Nat :=
  let c6_i32_232 : BitVec 32 := 6#32
  let v353 : Index := Scalar.indexCast c6_i32_232
  let c2_i32_233 : BitVec 32 := 2#32
  let v354 : Index := Scalar.indexCast c2_i32_233
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v355 : Index := Scalar.indexCast v304
  ![6, 2, v355.toNat]
def k0_off235 (k0_t12 : Fin k0_t12_loop.trips) : Fin 3 → Nat :=
  let c7_i32_234 : BitVec 32 := 7#32
  let v360 : Index := Scalar.indexCast c7_i32_234
  let c2_i32_235 : BitVec 32 := 2#32
  let v361 : Index := Scalar.indexCast c2_i32_235
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v362 : Index := Scalar.indexCast v304
  ![7, 2, v362.toNat]
def k0_off236 (k0_t12 : Fin k0_t12_loop.trips) : Fin 3 → Nat :=
  let c8_i32_237 : BitVec 32 := 8#32
  let v367 : Index := Scalar.indexCast c8_i32_237
  let c2_i32_238 : BitVec 32 := 2#32
  let v368 : Index := Scalar.indexCast c2_i32_238
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v369 : Index := Scalar.indexCast v304
  ![8, 2, v369.toNat]
def k0_off237 (k0_t12 : Fin k0_t12_loop.trips) : Fin 3 → Nat :=
  let c9_i32_239 : BitVec 32 := 9#32
  let v374 : Index := Scalar.indexCast c9_i32_239
  let c2_i32_240 : BitVec 32 := 2#32
  let v375 : Index := Scalar.indexCast c2_i32_240
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v376 : Index := Scalar.indexCast v304
  ![9, 2, v376.toNat]
def k0_off238 (k0_t12 : Fin k0_t12_loop.trips) : Fin 3 → Nat :=
  let c10_i32_241 : BitVec 32 := 10#32
  let v381 : Index := Scalar.indexCast c10_i32_241
  let c2_i32_242 : BitVec 32 := 2#32
  let v382 : Index := Scalar.indexCast c2_i32_242
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v383 : Index := Scalar.indexCast v304
  ![10, 2, v383.toNat]
def k0_off239 (k0_t12 : Fin k0_t12_loop.trips) : Fin 3 → Nat :=
  let c11_i32_243 : BitVec 32 := 11#32
  let v388 : Index := Scalar.indexCast c11_i32_243
  let c2_i32_244 : BitVec 32 := 2#32
  let v389 : Index := Scalar.indexCast c2_i32_244
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v390 : Index := Scalar.indexCast v304
  ![11, 2, v390.toNat]
def k0_off240 (k0_t12 : Fin k0_t12_loop.trips) : Fin 3 → Nat :=
  let c12_i32_245 : BitVec 32 := 12#32
  let v395 : Index := Scalar.indexCast c12_i32_245
  let c2_i32_246 : BitVec 32 := 2#32
  let v396 : Index := Scalar.indexCast c2_i32_246
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v397 : Index := Scalar.indexCast v304
  ![12, 2, v397.toNat]
def k0_off241 (k0_t12 : Fin k0_t12_loop.trips) : Fin 3 → Nat :=
  let c13_i32_247 : BitVec 32 := 13#32
  let v402 : Index := Scalar.indexCast c13_i32_247
  let c2_i32_248 : BitVec 32 := 2#32
  let v403 : Index := Scalar.indexCast c2_i32_248
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v404 : Index := Scalar.indexCast v304
  ![13, 2, v404.toNat]
def k0_off242 (k0_t12 : Fin k0_t12_loop.trips) : Fin 3 → Nat :=
  let c14_i32_249 : BitVec 32 := 14#32
  let v409 : Index := Scalar.indexCast c14_i32_249
  let c2_i32_250 : BitVec 32 := 2#32
  let v410 : Index := Scalar.indexCast c2_i32_250
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v411 : Index := Scalar.indexCast v304
  ![14, 2, v411.toNat]
def k0_off243 (k0_t12 : Fin k0_t12_loop.trips) : Fin 3 → Nat :=
  let c15_i32_252 : BitVec 32 := 15#32
  let v416 : Index := Scalar.indexCast c15_i32_252
  let c2_i32_253 : BitVec 32 := 2#32
  let v417 : Index := Scalar.indexCast c2_i32_253
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v418 : Index := Scalar.indexCast v304
  ![15, 2, v418.toNat]
def k0_off244 (k0_t12 : Fin k0_t12_loop.trips) : Fin 3 → Nat :=
  let c16_i32_255 : BitVec 32 := 16#32
  let v423 : Index := Scalar.indexCast c16_i32_255
  let c2_i32_256 : BitVec 32 := 2#32
  let v424 : Index := Scalar.indexCast c2_i32_256
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v425 : Index := Scalar.indexCast v304
  ![16, 2, v425.toNat]
def k0_off245 (k0_t12 : Fin k0_t12_loop.trips) : Fin 3 → Nat :=
  let c17_i32_257 : BitVec 32 := 17#32
  let v430 : Index := Scalar.indexCast c17_i32_257
  let c2_i32_258 : BitVec 32 := 2#32
  let v431 : Index := Scalar.indexCast c2_i32_258
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v432 : Index := Scalar.indexCast v304
  ![17, 2, v432.toNat]
def k0_off246 (k0_t12 : Fin k0_t12_loop.trips) : Fin 3 → Nat :=
  let c18_i32_259 : BitVec 32 := 18#32
  let v437 : Index := Scalar.indexCast c18_i32_259
  let c2_i32_260 : BitVec 32 := 2#32
  let v438 : Index := Scalar.indexCast c2_i32_260
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v439 : Index := Scalar.indexCast v304
  ![18, 2, v439.toNat]
def k0_off247 (k0_t12 : Fin k0_t12_loop.trips) : Fin 3 → Nat :=
  let c19_i32_261 : BitVec 32 := 19#32
  let v444 : Index := Scalar.indexCast c19_i32_261
  let c2_i32_262 : BitVec 32 := 2#32
  let v445 : Index := Scalar.indexCast c2_i32_262
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v446 : Index := Scalar.indexCast v304
  ![19, 2, v446.toNat]
def k0_off248 (k0_t12 : Fin k0_t12_loop.trips) : Fin 3 → Nat :=
  let c20_i32_263 : BitVec 32 := 20#32
  let v451 : Index := Scalar.indexCast c20_i32_263
  let c2_i32_264 : BitVec 32 := 2#32
  let v452 : Index := Scalar.indexCast c2_i32_264
  let c0_i32_214 : BitVec 32 := 0#32
  let c0_i32_169 : BitVec 32 := 0#32
  let c1_i32_171 : BitVec 32 := 1#32
  let arg13 : BitVec 32 := Scf.iv c0_i32_169 c1_i32_171 k0_t12
  let c16_i32_213 : BitVec 32 := 16#32
  let v303 : BitVec 32 := Scalar.muli arg13 c16_i32_213
  let v304 : BitVec 32 := Scalar.addi c0_i32_214 v303
  let v453 : Index := Scalar.indexCast v304
  ![20, 2, v453.toNat]
@[reducible] def k0_t13_loop : Scf.Loop 32 :=
  let c0_i32_173 : BitVec 32 := 0#32
  let c16_i32_174 : BitVec 32 := 16#32
  let v262 : BitVec 32 := Scalar.addi c0_i32_173 c16_i32_174
  let c1_i32_175 : BitVec 32 := 1#32
  ⟨c0_i32_173, v262, c1_i32_175⟩
def k0_off249 (k0_t13 : Fin k0_t13_loop.trips) : Fin 2 → Nat :=
  let c3_i32 : BitVec 32 := 3#32
  let v305 : Index := Scalar.indexCast c3_i32
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v306 : Index := Scalar.indexCast v304
  ![3, v306.toNat]
def k0_off250 (k0_t13 : Fin k0_t13_loop.trips) : Fin 3 → Nat :=
  let c0_i32_216 : BitVec 32 := 0#32
  let v311 : Index := Scalar.indexCast c0_i32_216
  let c3_i32_217 : BitVec 32 := 3#32
  let v312 : Index := Scalar.indexCast c3_i32_217
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v313 : Index := Scalar.indexCast v304
  ![0, 3, v313.toNat]
def k0_off251 (k0_t13 : Fin k0_t13_loop.trips) : Fin 3 → Nat :=
  let c1_i32_219 : BitVec 32 := 1#32
  let v318 : Index := Scalar.indexCast c1_i32_219
  let c3_i32_220 : BitVec 32 := 3#32
  let v319 : Index := Scalar.indexCast c3_i32_220
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v320 : Index := Scalar.indexCast v304
  ![1, 3, v320.toNat]
def k0_off252 (k0_t13 : Fin k0_t13_loop.trips) : Fin 3 → Nat :=
  let c2_i32_222 : BitVec 32 := 2#32
  let v325 : Index := Scalar.indexCast c2_i32_222
  let c3_i32_223 : BitVec 32 := 3#32
  let v326 : Index := Scalar.indexCast c3_i32_223
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v327 : Index := Scalar.indexCast v304
  ![2, 3, v327.toNat]
def k0_off253 (k0_t13 : Fin k0_t13_loop.trips) : Fin 3 → Nat :=
  let c3_i32_225 : BitVec 32 := 3#32
  let v332 : Index := Scalar.indexCast c3_i32_225
  let c3_i32_226 : BitVec 32 := 3#32
  let v333 : Index := Scalar.indexCast c3_i32_226
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v334 : Index := Scalar.indexCast v304
  ![3, 3, v334.toNat]
def k0_off254 (k0_t13 : Fin k0_t13_loop.trips) : Fin 3 → Nat :=
  let c4_i32_228 : BitVec 32 := 4#32
  let v339 : Index := Scalar.indexCast c4_i32_228
  let c3_i32_229 : BitVec 32 := 3#32
  let v340 : Index := Scalar.indexCast c3_i32_229
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v341 : Index := Scalar.indexCast v304
  ![4, 3, v341.toNat]
def k0_off255 (k0_t13 : Fin k0_t13_loop.trips) : Fin 3 → Nat :=
  let c5_i32_230 : BitVec 32 := 5#32
  let v346 : Index := Scalar.indexCast c5_i32_230
  let c3_i32_231 : BitVec 32 := 3#32
  let v347 : Index := Scalar.indexCast c3_i32_231
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v348 : Index := Scalar.indexCast v304
  ![5, 3, v348.toNat]
def k0_off256 (k0_t13 : Fin k0_t13_loop.trips) : Fin 3 → Nat :=
  let c6_i32_232 : BitVec 32 := 6#32
  let v353 : Index := Scalar.indexCast c6_i32_232
  let c3_i32_233 : BitVec 32 := 3#32
  let v354 : Index := Scalar.indexCast c3_i32_233
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v355 : Index := Scalar.indexCast v304
  ![6, 3, v355.toNat]
def k0_off257 (k0_t13 : Fin k0_t13_loop.trips) : Fin 3 → Nat :=
  let c7_i32_234 : BitVec 32 := 7#32
  let v360 : Index := Scalar.indexCast c7_i32_234
  let c3_i32_235 : BitVec 32 := 3#32
  let v361 : Index := Scalar.indexCast c3_i32_235
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v362 : Index := Scalar.indexCast v304
  ![7, 3, v362.toNat]
def k0_off258 (k0_t13 : Fin k0_t13_loop.trips) : Fin 3 → Nat :=
  let c8_i32_237 : BitVec 32 := 8#32
  let v367 : Index := Scalar.indexCast c8_i32_237
  let c3_i32_238 : BitVec 32 := 3#32
  let v368 : Index := Scalar.indexCast c3_i32_238
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v369 : Index := Scalar.indexCast v304
  ![8, 3, v369.toNat]
def k0_off259 (k0_t13 : Fin k0_t13_loop.trips) : Fin 3 → Nat :=
  let c9_i32_239 : BitVec 32 := 9#32
  let v374 : Index := Scalar.indexCast c9_i32_239
  let c3_i32_240 : BitVec 32 := 3#32
  let v375 : Index := Scalar.indexCast c3_i32_240
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v376 : Index := Scalar.indexCast v304
  ![9, 3, v376.toNat]
def k0_off260 (k0_t13 : Fin k0_t13_loop.trips) : Fin 3 → Nat :=
  let c10_i32_241 : BitVec 32 := 10#32
  let v381 : Index := Scalar.indexCast c10_i32_241
  let c3_i32_242 : BitVec 32 := 3#32
  let v382 : Index := Scalar.indexCast c3_i32_242
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v383 : Index := Scalar.indexCast v304
  ![10, 3, v383.toNat]
def k0_off261 (k0_t13 : Fin k0_t13_loop.trips) : Fin 3 → Nat :=
  let c11_i32_243 : BitVec 32 := 11#32
  let v388 : Index := Scalar.indexCast c11_i32_243
  let c3_i32_244 : BitVec 32 := 3#32
  let v389 : Index := Scalar.indexCast c3_i32_244
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v390 : Index := Scalar.indexCast v304
  ![11, 3, v390.toNat]
def k0_off262 (k0_t13 : Fin k0_t13_loop.trips) : Fin 3 → Nat :=
  let c12_i32_245 : BitVec 32 := 12#32
  let v395 : Index := Scalar.indexCast c12_i32_245
  let c3_i32_246 : BitVec 32 := 3#32
  let v396 : Index := Scalar.indexCast c3_i32_246
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v397 : Index := Scalar.indexCast v304
  ![12, 3, v397.toNat]
def k0_off263 (k0_t13 : Fin k0_t13_loop.trips) : Fin 3 → Nat :=
  let c13_i32_247 : BitVec 32 := 13#32
  let v402 : Index := Scalar.indexCast c13_i32_247
  let c3_i32_248 : BitVec 32 := 3#32
  let v403 : Index := Scalar.indexCast c3_i32_248
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v404 : Index := Scalar.indexCast v304
  ![13, 3, v404.toNat]
def k0_off264 (k0_t13 : Fin k0_t13_loop.trips) : Fin 3 → Nat :=
  let c14_i32_249 : BitVec 32 := 14#32
  let v409 : Index := Scalar.indexCast c14_i32_249
  let c3_i32_250 : BitVec 32 := 3#32
  let v410 : Index := Scalar.indexCast c3_i32_250
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v411 : Index := Scalar.indexCast v304
  ![14, 3, v411.toNat]
def k0_off265 (k0_t13 : Fin k0_t13_loop.trips) : Fin 3 → Nat :=
  let c15_i32_252 : BitVec 32 := 15#32
  let v416 : Index := Scalar.indexCast c15_i32_252
  let c3_i32_253 : BitVec 32 := 3#32
  let v417 : Index := Scalar.indexCast c3_i32_253
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v418 : Index := Scalar.indexCast v304
  ![15, 3, v418.toNat]
def k0_off266 (k0_t13 : Fin k0_t13_loop.trips) : Fin 3 → Nat :=
  let c16_i32_255 : BitVec 32 := 16#32
  let v423 : Index := Scalar.indexCast c16_i32_255
  let c3_i32_256 : BitVec 32 := 3#32
  let v424 : Index := Scalar.indexCast c3_i32_256
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v425 : Index := Scalar.indexCast v304
  ![16, 3, v425.toNat]
def k0_off267 (k0_t13 : Fin k0_t13_loop.trips) : Fin 3 → Nat :=
  let c17_i32_257 : BitVec 32 := 17#32
  let v430 : Index := Scalar.indexCast c17_i32_257
  let c3_i32_258 : BitVec 32 := 3#32
  let v431 : Index := Scalar.indexCast c3_i32_258
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v432 : Index := Scalar.indexCast v304
  ![17, 3, v432.toNat]
def k0_off268 (k0_t13 : Fin k0_t13_loop.trips) : Fin 3 → Nat :=
  let c18_i32_259 : BitVec 32 := 18#32
  let v437 : Index := Scalar.indexCast c18_i32_259
  let c3_i32_260 : BitVec 32 := 3#32
  let v438 : Index := Scalar.indexCast c3_i32_260
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v439 : Index := Scalar.indexCast v304
  ![18, 3, v439.toNat]
def k0_off269 (k0_t13 : Fin k0_t13_loop.trips) : Fin 3 → Nat :=
  let c19_i32_261 : BitVec 32 := 19#32
  let v444 : Index := Scalar.indexCast c19_i32_261
  let c3_i32_262 : BitVec 32 := 3#32
  let v445 : Index := Scalar.indexCast c3_i32_262
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v446 : Index := Scalar.indexCast v304
  ![19, 3, v446.toNat]
def k0_off270 (k0_t13 : Fin k0_t13_loop.trips) : Fin 3 → Nat :=
  let c20_i32_263 : BitVec 32 := 20#32
  let v451 : Index := Scalar.indexCast c20_i32_263
  let c3_i32_264 : BitVec 32 := 3#32
  let v452 : Index := Scalar.indexCast c3_i32_264
  let c0_i32_214 : BitVec 32 := 0#32
  let c0_i32_173 : BitVec 32 := 0#32
  let c1_i32_175 : BitVec 32 := 1#32
  let arg13 : BitVec 32 := Scf.iv c0_i32_173 c1_i32_175 k0_t13
  let c16_i32_213 : BitVec 32 := 16#32
  let v303 : BitVec 32 := Scalar.muli arg13 c16_i32_213
  let v304 : BitVec 32 := Scalar.addi c0_i32_214 v303
  let v453 : Index := Scalar.indexCast v304
  ![20, 3, v453.toNat]
@[reducible] def k0_t14_loop : Scf.Loop 32 :=
  let c0_i32_177 : BitVec 32 := 0#32
  let c16_i32_178 : BitVec 32 := 16#32
  let v263 : BitVec 32 := Scalar.addi c0_i32_177 c16_i32_178
  let c1_i32_179 : BitVec 32 := 1#32
  ⟨c0_i32_177, v263, c1_i32_179⟩
def k0_off271 (k0_t14 : Fin k0_t14_loop.trips) : Fin 2 → Nat :=
  let c4_i32_215 : BitVec 32 := 4#32
  let v305 : Index := Scalar.indexCast c4_i32_215
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v306 : Index := Scalar.indexCast v304
  ![4, v306.toNat]
def k0_off272 (k0_t14 : Fin k0_t14_loop.trips) : Fin 3 → Nat :=
  let c0_i32_217 : BitVec 32 := 0#32
  let v311 : Index := Scalar.indexCast c0_i32_217
  let c4_i32_218 : BitVec 32 := 4#32
  let v312 : Index := Scalar.indexCast c4_i32_218
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v313 : Index := Scalar.indexCast v304
  ![0, 4, v313.toNat]
def k0_off273 (k0_t14 : Fin k0_t14_loop.trips) : Fin 3 → Nat :=
  let c1_i32_220 : BitVec 32 := 1#32
  let v318 : Index := Scalar.indexCast c1_i32_220
  let c4_i32_221 : BitVec 32 := 4#32
  let v319 : Index := Scalar.indexCast c4_i32_221
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v320 : Index := Scalar.indexCast v304
  ![1, 4, v320.toNat]
def k0_off274 (k0_t14 : Fin k0_t14_loop.trips) : Fin 3 → Nat :=
  let c2_i32_223 : BitVec 32 := 2#32
  let v325 : Index := Scalar.indexCast c2_i32_223
  let c4_i32_224 : BitVec 32 := 4#32
  let v326 : Index := Scalar.indexCast c4_i32_224
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v327 : Index := Scalar.indexCast v304
  ![2, 4, v327.toNat]
def k0_off275 (k0_t14 : Fin k0_t14_loop.trips) : Fin 3 → Nat :=
  let c3_i32_225 : BitVec 32 := 3#32
  let v332 : Index := Scalar.indexCast c3_i32_225
  let c4_i32_226 : BitVec 32 := 4#32
  let v333 : Index := Scalar.indexCast c4_i32_226
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v334 : Index := Scalar.indexCast v304
  ![3, 4, v334.toNat]
def k0_off276 (k0_t14 : Fin k0_t14_loop.trips) : Fin 3 → Nat :=
  let c4_i32_228 : BitVec 32 := 4#32
  let v339 : Index := Scalar.indexCast c4_i32_228
  let c4_i32_229 : BitVec 32 := 4#32
  let v340 : Index := Scalar.indexCast c4_i32_229
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v341 : Index := Scalar.indexCast v304
  ![4, 4, v341.toNat]
def k0_off277 (k0_t14 : Fin k0_t14_loop.trips) : Fin 3 → Nat :=
  let c5_i32_230 : BitVec 32 := 5#32
  let v346 : Index := Scalar.indexCast c5_i32_230
  let c4_i32_231 : BitVec 32 := 4#32
  let v347 : Index := Scalar.indexCast c4_i32_231
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v348 : Index := Scalar.indexCast v304
  ![5, 4, v348.toNat]
def k0_off278 (k0_t14 : Fin k0_t14_loop.trips) : Fin 3 → Nat :=
  let c6_i32_232 : BitVec 32 := 6#32
  let v353 : Index := Scalar.indexCast c6_i32_232
  let c4_i32_233 : BitVec 32 := 4#32
  let v354 : Index := Scalar.indexCast c4_i32_233
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v355 : Index := Scalar.indexCast v304
  ![6, 4, v355.toNat]
def k0_off279 (k0_t14 : Fin k0_t14_loop.trips) : Fin 3 → Nat :=
  let c7_i32_234 : BitVec 32 := 7#32
  let v360 : Index := Scalar.indexCast c7_i32_234
  let c4_i32_235 : BitVec 32 := 4#32
  let v361 : Index := Scalar.indexCast c4_i32_235
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v362 : Index := Scalar.indexCast v304
  ![7, 4, v362.toNat]
def k0_off280 (k0_t14 : Fin k0_t14_loop.trips) : Fin 3 → Nat :=
  let c8_i32_237 : BitVec 32 := 8#32
  let v367 : Index := Scalar.indexCast c8_i32_237
  let c4_i32_238 : BitVec 32 := 4#32
  let v368 : Index := Scalar.indexCast c4_i32_238
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v369 : Index := Scalar.indexCast v304
  ![8, 4, v369.toNat]
def k0_off281 (k0_t14 : Fin k0_t14_loop.trips) : Fin 3 → Nat :=
  let c9_i32_239 : BitVec 32 := 9#32
  let v374 : Index := Scalar.indexCast c9_i32_239
  let c4_i32_240 : BitVec 32 := 4#32
  let v375 : Index := Scalar.indexCast c4_i32_240
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v376 : Index := Scalar.indexCast v304
  ![9, 4, v376.toNat]
def k0_off282 (k0_t14 : Fin k0_t14_loop.trips) : Fin 3 → Nat :=
  let c10_i32_241 : BitVec 32 := 10#32
  let v381 : Index := Scalar.indexCast c10_i32_241
  let c4_i32_242 : BitVec 32 := 4#32
  let v382 : Index := Scalar.indexCast c4_i32_242
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v383 : Index := Scalar.indexCast v304
  ![10, 4, v383.toNat]
def k0_off283 (k0_t14 : Fin k0_t14_loop.trips) : Fin 3 → Nat :=
  let c11_i32_243 : BitVec 32 := 11#32
  let v388 : Index := Scalar.indexCast c11_i32_243
  let c4_i32_244 : BitVec 32 := 4#32
  let v389 : Index := Scalar.indexCast c4_i32_244
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v390 : Index := Scalar.indexCast v304
  ![11, 4, v390.toNat]
def k0_off284 (k0_t14 : Fin k0_t14_loop.trips) : Fin 3 → Nat :=
  let c12_i32_245 : BitVec 32 := 12#32
  let v395 : Index := Scalar.indexCast c12_i32_245
  let c4_i32_246 : BitVec 32 := 4#32
  let v396 : Index := Scalar.indexCast c4_i32_246
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v397 : Index := Scalar.indexCast v304
  ![12, 4, v397.toNat]
def k0_off285 (k0_t14 : Fin k0_t14_loop.trips) : Fin 3 → Nat :=
  let c13_i32_247 : BitVec 32 := 13#32
  let v402 : Index := Scalar.indexCast c13_i32_247
  let c4_i32_248 : BitVec 32 := 4#32
  let v403 : Index := Scalar.indexCast c4_i32_248
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v404 : Index := Scalar.indexCast v304
  ![13, 4, v404.toNat]
def k0_off286 (k0_t14 : Fin k0_t14_loop.trips) : Fin 3 → Nat :=
  let c14_i32_249 : BitVec 32 := 14#32
  let v409 : Index := Scalar.indexCast c14_i32_249
  let c4_i32_250 : BitVec 32 := 4#32
  let v410 : Index := Scalar.indexCast c4_i32_250
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v411 : Index := Scalar.indexCast v304
  ![14, 4, v411.toNat]
def k0_off287 (k0_t14 : Fin k0_t14_loop.trips) : Fin 3 → Nat :=
  let c15_i32_252 : BitVec 32 := 15#32
  let v416 : Index := Scalar.indexCast c15_i32_252
  let c4_i32_253 : BitVec 32 := 4#32
  let v417 : Index := Scalar.indexCast c4_i32_253
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v418 : Index := Scalar.indexCast v304
  ![15, 4, v418.toNat]
def k0_off288 (k0_t14 : Fin k0_t14_loop.trips) : Fin 3 → Nat :=
  let c16_i32_255 : BitVec 32 := 16#32
  let v423 : Index := Scalar.indexCast c16_i32_255
  let c4_i32_256 : BitVec 32 := 4#32
  let v424 : Index := Scalar.indexCast c4_i32_256
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v425 : Index := Scalar.indexCast v304
  ![16, 4, v425.toNat]
def k0_off289 (k0_t14 : Fin k0_t14_loop.trips) : Fin 3 → Nat :=
  let c17_i32_257 : BitVec 32 := 17#32
  let v430 : Index := Scalar.indexCast c17_i32_257
  let c4_i32_258 : BitVec 32 := 4#32
  let v431 : Index := Scalar.indexCast c4_i32_258
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v432 : Index := Scalar.indexCast v304
  ![17, 4, v432.toNat]
def k0_off290 (k0_t14 : Fin k0_t14_loop.trips) : Fin 3 → Nat :=
  let c18_i32_259 : BitVec 32 := 18#32
  let v437 : Index := Scalar.indexCast c18_i32_259
  let c4_i32_260 : BitVec 32 := 4#32
  let v438 : Index := Scalar.indexCast c4_i32_260
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v439 : Index := Scalar.indexCast v304
  ![18, 4, v439.toNat]
def k0_off291 (k0_t14 : Fin k0_t14_loop.trips) : Fin 3 → Nat :=
  let c19_i32_261 : BitVec 32 := 19#32
  let v444 : Index := Scalar.indexCast c19_i32_261
  let c4_i32_262 : BitVec 32 := 4#32
  let v445 : Index := Scalar.indexCast c4_i32_262
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v446 : Index := Scalar.indexCast v304
  ![19, 4, v446.toNat]
def k0_off292 (k0_t14 : Fin k0_t14_loop.trips) : Fin 3 → Nat :=
  let c20_i32_263 : BitVec 32 := 20#32
  let v451 : Index := Scalar.indexCast c20_i32_263
  let c4_i32_264 : BitVec 32 := 4#32
  let v452 : Index := Scalar.indexCast c4_i32_264
  let c0_i32_214 : BitVec 32 := 0#32
  let c0_i32_177 : BitVec 32 := 0#32
  let c1_i32_179 : BitVec 32 := 1#32
  let arg13 : BitVec 32 := Scf.iv c0_i32_177 c1_i32_179 k0_t14
  let c16_i32_213 : BitVec 32 := 16#32
  let v303 : BitVec 32 := Scalar.muli arg13 c16_i32_213
  let v304 : BitVec 32 := Scalar.addi c0_i32_214 v303
  let v453 : Index := Scalar.indexCast v304
  ![20, 4, v453.toNat]
@[reducible] def k0_t15_loop : Scf.Loop 32 :=
  let c0_i32_181 : BitVec 32 := 0#32
  let c16_i32_182 : BitVec 32 := 16#32
  let v264 : BitVec 32 := Scalar.addi c0_i32_181 c16_i32_182
  let c1_i32_183 : BitVec 32 := 1#32
  ⟨c0_i32_181, v264, c1_i32_183⟩
def k0_off293 (k0_t15 : Fin k0_t15_loop.trips) : Fin 2 → Nat :=
  let c5_i32 : BitVec 32 := 5#32
  let v305 : Index := Scalar.indexCast c5_i32
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v306 : Index := Scalar.indexCast v304
  ![5, v306.toNat]
def k0_off294 (k0_t15 : Fin k0_t15_loop.trips) : Fin 3 → Nat :=
  let c0_i32_216 : BitVec 32 := 0#32
  let v311 : Index := Scalar.indexCast c0_i32_216
  let c5_i32_217 : BitVec 32 := 5#32
  let v312 : Index := Scalar.indexCast c5_i32_217
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v313 : Index := Scalar.indexCast v304
  ![0, 5, v313.toNat]
def k0_off295 (k0_t15 : Fin k0_t15_loop.trips) : Fin 3 → Nat :=
  let c1_i32_219 : BitVec 32 := 1#32
  let v318 : Index := Scalar.indexCast c1_i32_219
  let c5_i32_220 : BitVec 32 := 5#32
  let v319 : Index := Scalar.indexCast c5_i32_220
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v320 : Index := Scalar.indexCast v304
  ![1, 5, v320.toNat]
def k0_off296 (k0_t15 : Fin k0_t15_loop.trips) : Fin 3 → Nat :=
  let c2_i32_222 : BitVec 32 := 2#32
  let v325 : Index := Scalar.indexCast c2_i32_222
  let c5_i32_223 : BitVec 32 := 5#32
  let v326 : Index := Scalar.indexCast c5_i32_223
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v327 : Index := Scalar.indexCast v304
  ![2, 5, v327.toNat]
def k0_off297 (k0_t15 : Fin k0_t15_loop.trips) : Fin 3 → Nat :=
  let c3_i32_224 : BitVec 32 := 3#32
  let v332 : Index := Scalar.indexCast c3_i32_224
  let c5_i32_225 : BitVec 32 := 5#32
  let v333 : Index := Scalar.indexCast c5_i32_225
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v334 : Index := Scalar.indexCast v304
  ![3, 5, v334.toNat]
def k0_off298 (k0_t15 : Fin k0_t15_loop.trips) : Fin 3 → Nat :=
  let c4_i32_227 : BitVec 32 := 4#32
  let v339 : Index := Scalar.indexCast c4_i32_227
  let c5_i32_228 : BitVec 32 := 5#32
  let v340 : Index := Scalar.indexCast c5_i32_228
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v341 : Index := Scalar.indexCast v304
  ![4, 5, v341.toNat]
def k0_off299 (k0_t15 : Fin k0_t15_loop.trips) : Fin 3 → Nat :=
  let c5_i32_230 : BitVec 32 := 5#32
  let v346 : Index := Scalar.indexCast c5_i32_230
  let c5_i32_231 : BitVec 32 := 5#32
  let v347 : Index := Scalar.indexCast c5_i32_231
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v348 : Index := Scalar.indexCast v304
  ![5, 5, v348.toNat]
def k0_off300 (k0_t15 : Fin k0_t15_loop.trips) : Fin 3 → Nat :=
  let c6_i32_232 : BitVec 32 := 6#32
  let v353 : Index := Scalar.indexCast c6_i32_232
  let c5_i32_233 : BitVec 32 := 5#32
  let v354 : Index := Scalar.indexCast c5_i32_233
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v355 : Index := Scalar.indexCast v304
  ![6, 5, v355.toNat]
def k0_off301 (k0_t15 : Fin k0_t15_loop.trips) : Fin 3 → Nat :=
  let c7_i32_234 : BitVec 32 := 7#32
  let v360 : Index := Scalar.indexCast c7_i32_234
  let c5_i32_235 : BitVec 32 := 5#32
  let v361 : Index := Scalar.indexCast c5_i32_235
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v362 : Index := Scalar.indexCast v304
  ![7, 5, v362.toNat]
def k0_off302 (k0_t15 : Fin k0_t15_loop.trips) : Fin 3 → Nat :=
  let c8_i32_237 : BitVec 32 := 8#32
  let v367 : Index := Scalar.indexCast c8_i32_237
  let c5_i32_238 : BitVec 32 := 5#32
  let v368 : Index := Scalar.indexCast c5_i32_238
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v369 : Index := Scalar.indexCast v304
  ![8, 5, v369.toNat]
def k0_off303 (k0_t15 : Fin k0_t15_loop.trips) : Fin 3 → Nat :=
  let c9_i32_239 : BitVec 32 := 9#32
  let v374 : Index := Scalar.indexCast c9_i32_239
  let c5_i32_240 : BitVec 32 := 5#32
  let v375 : Index := Scalar.indexCast c5_i32_240
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v376 : Index := Scalar.indexCast v304
  ![9, 5, v376.toNat]
def k0_off304 (k0_t15 : Fin k0_t15_loop.trips) : Fin 3 → Nat :=
  let c10_i32_241 : BitVec 32 := 10#32
  let v381 : Index := Scalar.indexCast c10_i32_241
  let c5_i32_242 : BitVec 32 := 5#32
  let v382 : Index := Scalar.indexCast c5_i32_242
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v383 : Index := Scalar.indexCast v304
  ![10, 5, v383.toNat]
def k0_off305 (k0_t15 : Fin k0_t15_loop.trips) : Fin 3 → Nat :=
  let c11_i32_243 : BitVec 32 := 11#32
  let v388 : Index := Scalar.indexCast c11_i32_243
  let c5_i32_244 : BitVec 32 := 5#32
  let v389 : Index := Scalar.indexCast c5_i32_244
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v390 : Index := Scalar.indexCast v304
  ![11, 5, v390.toNat]
def k0_off306 (k0_t15 : Fin k0_t15_loop.trips) : Fin 3 → Nat :=
  let c12_i32_245 : BitVec 32 := 12#32
  let v395 : Index := Scalar.indexCast c12_i32_245
  let c5_i32_246 : BitVec 32 := 5#32
  let v396 : Index := Scalar.indexCast c5_i32_246
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v397 : Index := Scalar.indexCast v304
  ![12, 5, v397.toNat]
def k0_off307 (k0_t15 : Fin k0_t15_loop.trips) : Fin 3 → Nat :=
  let c13_i32_247 : BitVec 32 := 13#32
  let v402 : Index := Scalar.indexCast c13_i32_247
  let c5_i32_248 : BitVec 32 := 5#32
  let v403 : Index := Scalar.indexCast c5_i32_248
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v404 : Index := Scalar.indexCast v304
  ![13, 5, v404.toNat]
def k0_off308 (k0_t15 : Fin k0_t15_loop.trips) : Fin 3 → Nat :=
  let c14_i32_249 : BitVec 32 := 14#32
  let v409 : Index := Scalar.indexCast c14_i32_249
  let c5_i32_250 : BitVec 32 := 5#32
  let v410 : Index := Scalar.indexCast c5_i32_250
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v411 : Index := Scalar.indexCast v304
  ![14, 5, v411.toNat]
def k0_off309 (k0_t15 : Fin k0_t15_loop.trips) : Fin 3 → Nat :=
  let c15_i32_252 : BitVec 32 := 15#32
  let v416 : Index := Scalar.indexCast c15_i32_252
  let c5_i32_253 : BitVec 32 := 5#32
  let v417 : Index := Scalar.indexCast c5_i32_253
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v418 : Index := Scalar.indexCast v304
  ![15, 5, v418.toNat]
def k0_off310 (k0_t15 : Fin k0_t15_loop.trips) : Fin 3 → Nat :=
  let c16_i32_255 : BitVec 32 := 16#32
  let v423 : Index := Scalar.indexCast c16_i32_255
  let c5_i32_256 : BitVec 32 := 5#32
  let v424 : Index := Scalar.indexCast c5_i32_256
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v425 : Index := Scalar.indexCast v304
  ![16, 5, v425.toNat]
def k0_off311 (k0_t15 : Fin k0_t15_loop.trips) : Fin 3 → Nat :=
  let c17_i32_257 : BitVec 32 := 17#32
  let v430 : Index := Scalar.indexCast c17_i32_257
  let c5_i32_258 : BitVec 32 := 5#32
  let v431 : Index := Scalar.indexCast c5_i32_258
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v432 : Index := Scalar.indexCast v304
  ![17, 5, v432.toNat]
def k0_off312 (k0_t15 : Fin k0_t15_loop.trips) : Fin 3 → Nat :=
  let c18_i32_259 : BitVec 32 := 18#32
  let v437 : Index := Scalar.indexCast c18_i32_259
  let c5_i32_260 : BitVec 32 := 5#32
  let v438 : Index := Scalar.indexCast c5_i32_260
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v439 : Index := Scalar.indexCast v304
  ![18, 5, v439.toNat]
def k0_off313 (k0_t15 : Fin k0_t15_loop.trips) : Fin 3 → Nat :=
  let c19_i32_261 : BitVec 32 := 19#32
  let v444 : Index := Scalar.indexCast c19_i32_261
  let c5_i32_262 : BitVec 32 := 5#32
  let v445 : Index := Scalar.indexCast c5_i32_262
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v446 : Index := Scalar.indexCast v304
  ![19, 5, v446.toNat]
def k0_off314 (k0_t15 : Fin k0_t15_loop.trips) : Fin 3 → Nat :=
  let c20_i32_263 : BitVec 32 := 20#32
  let v451 : Index := Scalar.indexCast c20_i32_263
  let c5_i32_264 : BitVec 32 := 5#32
  let v452 : Index := Scalar.indexCast c5_i32_264
  let c0_i32_214 : BitVec 32 := 0#32
  let c0_i32_181 : BitVec 32 := 0#32
  let c1_i32_183 : BitVec 32 := 1#32
  let arg13 : BitVec 32 := Scf.iv c0_i32_181 c1_i32_183 k0_t15
  let c16_i32_213 : BitVec 32 := 16#32
  let v303 : BitVec 32 := Scalar.muli arg13 c16_i32_213
  let v304 : BitVec 32 := Scalar.addi c0_i32_214 v303
  let v453 : Index := Scalar.indexCast v304
  ![20, 5, v453.toNat]
@[reducible] def k0_t16_loop : Scf.Loop 32 :=
  let c0_i32_185 : BitVec 32 := 0#32
  let c16_i32_186 : BitVec 32 := 16#32
  let v265 : BitVec 32 := Scalar.addi c0_i32_185 c16_i32_186
  let c1_i32_187 : BitVec 32 := 1#32
  ⟨c0_i32_185, v265, c1_i32_187⟩
def k0_off315 (k0_t16 : Fin k0_t16_loop.trips) : Fin 2 → Nat :=
  let c6_i32 : BitVec 32 := 6#32
  let v305 : Index := Scalar.indexCast c6_i32
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v306 : Index := Scalar.indexCast v304
  ![6, v306.toNat]
def k0_off316 (k0_t16 : Fin k0_t16_loop.trips) : Fin 3 → Nat :=
  let c0_i32_216 : BitVec 32 := 0#32
  let v311 : Index := Scalar.indexCast c0_i32_216
  let c6_i32_217 : BitVec 32 := 6#32
  let v312 : Index := Scalar.indexCast c6_i32_217
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v313 : Index := Scalar.indexCast v304
  ![0, 6, v313.toNat]
def k0_off317 (k0_t16 : Fin k0_t16_loop.trips) : Fin 3 → Nat :=
  let c1_i32_219 : BitVec 32 := 1#32
  let v318 : Index := Scalar.indexCast c1_i32_219
  let c6_i32_220 : BitVec 32 := 6#32
  let v319 : Index := Scalar.indexCast c6_i32_220
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v320 : Index := Scalar.indexCast v304
  ![1, 6, v320.toNat]
def k0_off318 (k0_t16 : Fin k0_t16_loop.trips) : Fin 3 → Nat :=
  let c2_i32_222 : BitVec 32 := 2#32
  let v325 : Index := Scalar.indexCast c2_i32_222
  let c6_i32_223 : BitVec 32 := 6#32
  let v326 : Index := Scalar.indexCast c6_i32_223
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v327 : Index := Scalar.indexCast v304
  ![2, 6, v327.toNat]
def k0_off319 (k0_t16 : Fin k0_t16_loop.trips) : Fin 3 → Nat :=
  let c3_i32_224 : BitVec 32 := 3#32
  let v332 : Index := Scalar.indexCast c3_i32_224
  let c6_i32_225 : BitVec 32 := 6#32
  let v333 : Index := Scalar.indexCast c6_i32_225
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v334 : Index := Scalar.indexCast v304
  ![3, 6, v334.toNat]
def k0_off320 (k0_t16 : Fin k0_t16_loop.trips) : Fin 3 → Nat :=
  let c4_i32_227 : BitVec 32 := 4#32
  let v339 : Index := Scalar.indexCast c4_i32_227
  let c6_i32_228 : BitVec 32 := 6#32
  let v340 : Index := Scalar.indexCast c6_i32_228
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v341 : Index := Scalar.indexCast v304
  ![4, 6, v341.toNat]
def k0_off321 (k0_t16 : Fin k0_t16_loop.trips) : Fin 3 → Nat :=
  let c5_i32_229 : BitVec 32 := 5#32
  let v346 : Index := Scalar.indexCast c5_i32_229
  let c6_i32_230 : BitVec 32 := 6#32
  let v347 : Index := Scalar.indexCast c6_i32_230
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v348 : Index := Scalar.indexCast v304
  ![5, 6, v348.toNat]
def k0_off322 (k0_t16 : Fin k0_t16_loop.trips) : Fin 3 → Nat :=
  let c6_i32_232 : BitVec 32 := 6#32
  let v353 : Index := Scalar.indexCast c6_i32_232
  let c6_i32_233 : BitVec 32 := 6#32
  let v354 : Index := Scalar.indexCast c6_i32_233
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v355 : Index := Scalar.indexCast v304
  ![6, 6, v355.toNat]
def k0_off323 (k0_t16 : Fin k0_t16_loop.trips) : Fin 3 → Nat :=
  let c7_i32_234 : BitVec 32 := 7#32
  let v360 : Index := Scalar.indexCast c7_i32_234
  let c6_i32_235 : BitVec 32 := 6#32
  let v361 : Index := Scalar.indexCast c6_i32_235
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v362 : Index := Scalar.indexCast v304
  ![7, 6, v362.toNat]
def k0_off324 (k0_t16 : Fin k0_t16_loop.trips) : Fin 3 → Nat :=
  let c8_i32_237 : BitVec 32 := 8#32
  let v367 : Index := Scalar.indexCast c8_i32_237
  let c6_i32_238 : BitVec 32 := 6#32
  let v368 : Index := Scalar.indexCast c6_i32_238
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v369 : Index := Scalar.indexCast v304
  ![8, 6, v369.toNat]
def k0_off325 (k0_t16 : Fin k0_t16_loop.trips) : Fin 3 → Nat :=
  let c9_i32_239 : BitVec 32 := 9#32
  let v374 : Index := Scalar.indexCast c9_i32_239
  let c6_i32_240 : BitVec 32 := 6#32
  let v375 : Index := Scalar.indexCast c6_i32_240
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v376 : Index := Scalar.indexCast v304
  ![9, 6, v376.toNat]
def k0_off326 (k0_t16 : Fin k0_t16_loop.trips) : Fin 3 → Nat :=
  let c10_i32_241 : BitVec 32 := 10#32
  let v381 : Index := Scalar.indexCast c10_i32_241
  let c6_i32_242 : BitVec 32 := 6#32
  let v382 : Index := Scalar.indexCast c6_i32_242
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v383 : Index := Scalar.indexCast v304
  ![10, 6, v383.toNat]
def k0_off327 (k0_t16 : Fin k0_t16_loop.trips) : Fin 3 → Nat :=
  let c11_i32_243 : BitVec 32 := 11#32
  let v388 : Index := Scalar.indexCast c11_i32_243
  let c6_i32_244 : BitVec 32 := 6#32
  let v389 : Index := Scalar.indexCast c6_i32_244
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v390 : Index := Scalar.indexCast v304
  ![11, 6, v390.toNat]
def k0_off328 (k0_t16 : Fin k0_t16_loop.trips) : Fin 3 → Nat :=
  let c12_i32_245 : BitVec 32 := 12#32
  let v395 : Index := Scalar.indexCast c12_i32_245
  let c6_i32_246 : BitVec 32 := 6#32
  let v396 : Index := Scalar.indexCast c6_i32_246
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v397 : Index := Scalar.indexCast v304
  ![12, 6, v397.toNat]
def k0_off329 (k0_t16 : Fin k0_t16_loop.trips) : Fin 3 → Nat :=
  let c13_i32_247 : BitVec 32 := 13#32
  let v402 : Index := Scalar.indexCast c13_i32_247
  let c6_i32_248 : BitVec 32 := 6#32
  let v403 : Index := Scalar.indexCast c6_i32_248
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v404 : Index := Scalar.indexCast v304
  ![13, 6, v404.toNat]
def k0_off330 (k0_t16 : Fin k0_t16_loop.trips) : Fin 3 → Nat :=
  let c14_i32_249 : BitVec 32 := 14#32
  let v409 : Index := Scalar.indexCast c14_i32_249
  let c6_i32_250 : BitVec 32 := 6#32
  let v410 : Index := Scalar.indexCast c6_i32_250
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v411 : Index := Scalar.indexCast v304
  ![14, 6, v411.toNat]
def k0_off331 (k0_t16 : Fin k0_t16_loop.trips) : Fin 3 → Nat :=
  let c15_i32_252 : BitVec 32 := 15#32
  let v416 : Index := Scalar.indexCast c15_i32_252
  let c6_i32_253 : BitVec 32 := 6#32
  let v417 : Index := Scalar.indexCast c6_i32_253
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v418 : Index := Scalar.indexCast v304
  ![15, 6, v418.toNat]
def k0_off332 (k0_t16 : Fin k0_t16_loop.trips) : Fin 3 → Nat :=
  let c16_i32_255 : BitVec 32 := 16#32
  let v423 : Index := Scalar.indexCast c16_i32_255
  let c6_i32_256 : BitVec 32 := 6#32
  let v424 : Index := Scalar.indexCast c6_i32_256
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v425 : Index := Scalar.indexCast v304
  ![16, 6, v425.toNat]
def k0_off333 (k0_t16 : Fin k0_t16_loop.trips) : Fin 3 → Nat :=
  let c17_i32_257 : BitVec 32 := 17#32
  let v430 : Index := Scalar.indexCast c17_i32_257
  let c6_i32_258 : BitVec 32 := 6#32
  let v431 : Index := Scalar.indexCast c6_i32_258
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v432 : Index := Scalar.indexCast v304
  ![17, 6, v432.toNat]
def k0_off334 (k0_t16 : Fin k0_t16_loop.trips) : Fin 3 → Nat :=
  let c18_i32_259 : BitVec 32 := 18#32
  let v437 : Index := Scalar.indexCast c18_i32_259
  let c6_i32_260 : BitVec 32 := 6#32
  let v438 : Index := Scalar.indexCast c6_i32_260
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v439 : Index := Scalar.indexCast v304
  ![18, 6, v439.toNat]
def k0_off335 (k0_t16 : Fin k0_t16_loop.trips) : Fin 3 → Nat :=
  let c19_i32_261 : BitVec 32 := 19#32
  let v444 : Index := Scalar.indexCast c19_i32_261
  let c6_i32_262 : BitVec 32 := 6#32
  let v445 : Index := Scalar.indexCast c6_i32_262
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v446 : Index := Scalar.indexCast v304
  ![19, 6, v446.toNat]
def k0_off336 (k0_t16 : Fin k0_t16_loop.trips) : Fin 3 → Nat :=
  let c20_i32_263 : BitVec 32 := 20#32
  let v451 : Index := Scalar.indexCast c20_i32_263
  let c6_i32_264 : BitVec 32 := 6#32
  let v452 : Index := Scalar.indexCast c6_i32_264
  let c0_i32_214 : BitVec 32 := 0#32
  let c0_i32_185 : BitVec 32 := 0#32
  let c1_i32_187 : BitVec 32 := 1#32
  let arg13 : BitVec 32 := Scf.iv c0_i32_185 c1_i32_187 k0_t16
  let c16_i32_213 : BitVec 32 := 16#32
  let v303 : BitVec 32 := Scalar.muli arg13 c16_i32_213
  let v304 : BitVec 32 := Scalar.addi c0_i32_214 v303
  let v453 : Index := Scalar.indexCast v304
  ![20, 6, v453.toNat]
@[reducible] def k0_t17_loop : Scf.Loop 32 :=
  let c0_i32_189 : BitVec 32 := 0#32
  let c16_i32_190 : BitVec 32 := 16#32
  let v266 : BitVec 32 := Scalar.addi c0_i32_189 c16_i32_190
  let c1_i32_191 : BitVec 32 := 1#32
  ⟨c0_i32_189, v266, c1_i32_191⟩
def k0_off337 (k0_t17 : Fin k0_t17_loop.trips) : Fin 2 → Nat :=
  let c7_i32 : BitVec 32 := 7#32
  let v305 : Index := Scalar.indexCast c7_i32
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v306 : Index := Scalar.indexCast v304
  ![7, v306.toNat]
def k0_off338 (k0_t17 : Fin k0_t17_loop.trips) : Fin 3 → Nat :=
  let c0_i32_216 : BitVec 32 := 0#32
  let v311 : Index := Scalar.indexCast c0_i32_216
  let c7_i32_217 : BitVec 32 := 7#32
  let v312 : Index := Scalar.indexCast c7_i32_217
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v313 : Index := Scalar.indexCast v304
  ![0, 7, v313.toNat]
def k0_off339 (k0_t17 : Fin k0_t17_loop.trips) : Fin 3 → Nat :=
  let c1_i32_219 : BitVec 32 := 1#32
  let v318 : Index := Scalar.indexCast c1_i32_219
  let c7_i32_220 : BitVec 32 := 7#32
  let v319 : Index := Scalar.indexCast c7_i32_220
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v320 : Index := Scalar.indexCast v304
  ![1, 7, v320.toNat]
def k0_off340 (k0_t17 : Fin k0_t17_loop.trips) : Fin 3 → Nat :=
  let c2_i32_222 : BitVec 32 := 2#32
  let v325 : Index := Scalar.indexCast c2_i32_222
  let c7_i32_223 : BitVec 32 := 7#32
  let v326 : Index := Scalar.indexCast c7_i32_223
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v327 : Index := Scalar.indexCast v304
  ![2, 7, v327.toNat]
def k0_off341 (k0_t17 : Fin k0_t17_loop.trips) : Fin 3 → Nat :=
  let c3_i32_224 : BitVec 32 := 3#32
  let v332 : Index := Scalar.indexCast c3_i32_224
  let c7_i32_225 : BitVec 32 := 7#32
  let v333 : Index := Scalar.indexCast c7_i32_225
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v334 : Index := Scalar.indexCast v304
  ![3, 7, v334.toNat]
def k0_off342 (k0_t17 : Fin k0_t17_loop.trips) : Fin 3 → Nat :=
  let c4_i32_227 : BitVec 32 := 4#32
  let v339 : Index := Scalar.indexCast c4_i32_227
  let c7_i32_228 : BitVec 32 := 7#32
  let v340 : Index := Scalar.indexCast c7_i32_228
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v341 : Index := Scalar.indexCast v304
  ![4, 7, v341.toNat]
def k0_off343 (k0_t17 : Fin k0_t17_loop.trips) : Fin 3 → Nat :=
  let c5_i32_229 : BitVec 32 := 5#32
  let v346 : Index := Scalar.indexCast c5_i32_229
  let c7_i32_230 : BitVec 32 := 7#32
  let v347 : Index := Scalar.indexCast c7_i32_230
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v348 : Index := Scalar.indexCast v304
  ![5, 7, v348.toNat]
def k0_off344 (k0_t17 : Fin k0_t17_loop.trips) : Fin 3 → Nat :=
  let c6_i32_231 : BitVec 32 := 6#32
  let v353 : Index := Scalar.indexCast c6_i32_231
  let c7_i32_232 : BitVec 32 := 7#32
  let v354 : Index := Scalar.indexCast c7_i32_232
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v355 : Index := Scalar.indexCast v304
  ![6, 7, v355.toNat]
def k0_off345 (k0_t17 : Fin k0_t17_loop.trips) : Fin 3 → Nat :=
  let c7_i32_234 : BitVec 32 := 7#32
  let v360 : Index := Scalar.indexCast c7_i32_234
  let c7_i32_235 : BitVec 32 := 7#32
  let v361 : Index := Scalar.indexCast c7_i32_235
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v362 : Index := Scalar.indexCast v304
  ![7, 7, v362.toNat]
def k0_off346 (k0_t17 : Fin k0_t17_loop.trips) : Fin 3 → Nat :=
  let c8_i32_237 : BitVec 32 := 8#32
  let v367 : Index := Scalar.indexCast c8_i32_237
  let c7_i32_238 : BitVec 32 := 7#32
  let v368 : Index := Scalar.indexCast c7_i32_238
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v369 : Index := Scalar.indexCast v304
  ![8, 7, v369.toNat]
def k0_off347 (k0_t17 : Fin k0_t17_loop.trips) : Fin 3 → Nat :=
  let c9_i32_239 : BitVec 32 := 9#32
  let v374 : Index := Scalar.indexCast c9_i32_239
  let c7_i32_240 : BitVec 32 := 7#32
  let v375 : Index := Scalar.indexCast c7_i32_240
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v376 : Index := Scalar.indexCast v304
  ![9, 7, v376.toNat]
def k0_off348 (k0_t17 : Fin k0_t17_loop.trips) : Fin 3 → Nat :=
  let c10_i32_241 : BitVec 32 := 10#32
  let v381 : Index := Scalar.indexCast c10_i32_241
  let c7_i32_242 : BitVec 32 := 7#32
  let v382 : Index := Scalar.indexCast c7_i32_242
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v383 : Index := Scalar.indexCast v304
  ![10, 7, v383.toNat]
def k0_off349 (k0_t17 : Fin k0_t17_loop.trips) : Fin 3 → Nat :=
  let c11_i32_243 : BitVec 32 := 11#32
  let v388 : Index := Scalar.indexCast c11_i32_243
  let c7_i32_244 : BitVec 32 := 7#32
  let v389 : Index := Scalar.indexCast c7_i32_244
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v390 : Index := Scalar.indexCast v304
  ![11, 7, v390.toNat]
def k0_off350 (k0_t17 : Fin k0_t17_loop.trips) : Fin 3 → Nat :=
  let c12_i32_245 : BitVec 32 := 12#32
  let v395 : Index := Scalar.indexCast c12_i32_245
  let c7_i32_246 : BitVec 32 := 7#32
  let v396 : Index := Scalar.indexCast c7_i32_246
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v397 : Index := Scalar.indexCast v304
  ![12, 7, v397.toNat]
def k0_off351 (k0_t17 : Fin k0_t17_loop.trips) : Fin 3 → Nat :=
  let c13_i32_247 : BitVec 32 := 13#32
  let v402 : Index := Scalar.indexCast c13_i32_247
  let c7_i32_248 : BitVec 32 := 7#32
  let v403 : Index := Scalar.indexCast c7_i32_248
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v404 : Index := Scalar.indexCast v304
  ![13, 7, v404.toNat]
def k0_off352 (k0_t17 : Fin k0_t17_loop.trips) : Fin 3 → Nat :=
  let c14_i32_249 : BitVec 32 := 14#32
  let v409 : Index := Scalar.indexCast c14_i32_249
  let c7_i32_250 : BitVec 32 := 7#32
  let v410 : Index := Scalar.indexCast c7_i32_250
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v411 : Index := Scalar.indexCast v304
  ![14, 7, v411.toNat]
def k0_off353 (k0_t17 : Fin k0_t17_loop.trips) : Fin 3 → Nat :=
  let c15_i32_252 : BitVec 32 := 15#32
  let v416 : Index := Scalar.indexCast c15_i32_252
  let c7_i32_253 : BitVec 32 := 7#32
  let v417 : Index := Scalar.indexCast c7_i32_253
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v418 : Index := Scalar.indexCast v304
  ![15, 7, v418.toNat]
def k0_off354 (k0_t17 : Fin k0_t17_loop.trips) : Fin 3 → Nat :=
  let c16_i32_255 : BitVec 32 := 16#32
  let v423 : Index := Scalar.indexCast c16_i32_255
  let c7_i32_256 : BitVec 32 := 7#32
  let v424 : Index := Scalar.indexCast c7_i32_256
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v425 : Index := Scalar.indexCast v304
  ![16, 7, v425.toNat]
def k0_off355 (k0_t17 : Fin k0_t17_loop.trips) : Fin 3 → Nat :=
  let c17_i32_257 : BitVec 32 := 17#32
  let v430 : Index := Scalar.indexCast c17_i32_257
  let c7_i32_258 : BitVec 32 := 7#32
  let v431 : Index := Scalar.indexCast c7_i32_258
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v432 : Index := Scalar.indexCast v304
  ![17, 7, v432.toNat]
def k0_off356 (k0_t17 : Fin k0_t17_loop.trips) : Fin 3 → Nat :=
  let c18_i32_259 : BitVec 32 := 18#32
  let v437 : Index := Scalar.indexCast c18_i32_259
  let c7_i32_260 : BitVec 32 := 7#32
  let v438 : Index := Scalar.indexCast c7_i32_260
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v439 : Index := Scalar.indexCast v304
  ![18, 7, v439.toNat]
def k0_off357 (k0_t17 : Fin k0_t17_loop.trips) : Fin 3 → Nat :=
  let c19_i32_261 : BitVec 32 := 19#32
  let v444 : Index := Scalar.indexCast c19_i32_261
  let c7_i32_262 : BitVec 32 := 7#32
  let v445 : Index := Scalar.indexCast c7_i32_262
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v446 : Index := Scalar.indexCast v304
  ![19, 7, v446.toNat]
def k0_off358 (k0_t17 : Fin k0_t17_loop.trips) : Fin 3 → Nat :=
  let c20_i32_263 : BitVec 32 := 20#32
  let v451 : Index := Scalar.indexCast c20_i32_263
  let c7_i32_264 : BitVec 32 := 7#32
  let v452 : Index := Scalar.indexCast c7_i32_264
  let c0_i32_214 : BitVec 32 := 0#32
  let c0_i32_189 : BitVec 32 := 0#32
  let c1_i32_191 : BitVec 32 := 1#32
  let arg13 : BitVec 32 := Scf.iv c0_i32_189 c1_i32_191 k0_t17
  let c16_i32_213 : BitVec 32 := 16#32
  let v303 : BitVec 32 := Scalar.muli arg13 c16_i32_213
  let v304 : BitVec 32 := Scalar.addi c0_i32_214 v303
  let v453 : Index := Scalar.indexCast v304
  ![20, 7, v453.toNat]
def k0_cond4 (k0_t1 : Fin k0_t1_loop.trips) : BitVec 1 :=
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c15_i32_211 : BitVec 32 := 15#32
  let v300 : BitVec 1 := Scalar.cmpi .slt v138 c15_i32_211
  let v301 : BitVec 32 := Scalar.extui v300
  let c0_i32_212 : BitVec 32 := 0#32
  let v302 : BitVec 1 := Scalar.cmpi .ne v301 c0_i32_212
  v302

def k0_off359 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_214 : BitVec 32 := 32#32
  let v304 : BitVec 32 := Scalar.muli v1 c32_i32_214
  let c0_i32_69 : BitVec 32 := 0#32
  let c0_i32_29 : BitVec 32 := 0#32
  let c1_i32_30 : BitVec 32 := 1#32
  let arg12 : BitVec 32 := Scf.iv c0_i32_29 c1_i32_30 k0_t1
  let c1_i32_68 : BitVec 32 := 1#32
  let v137 : BitVec 32 := Scalar.muli arg12 c1_i32_68
  let v138 : BitVec 32 := Scalar.addi c0_i32_69 v137
  let c2_i32_141 : BitVec 32 := 2#32
  let v221 : BitVec 32 := Scalar.muli v138 c2_i32_141
  let c1_i32_142 : BitVec 32 := 1#32
  let v222 : BitVec 32 := Scalar.addi v221 c1_i32_142
  let c2_i32_213 : BitVec 32 := 2#32
  let v303 : BitVec 32 := Scalar.addi v222 c2_i32_213
  let v305 : BitVec 32 := Scalar.addi v304 v303
  let c0_i32_216 : BitVec 32 := 0#32
  let v307 : BitVec 1 := Scalar.cmpi .sgt v305 c0_i32_216
  let v308 : BitVec 32 := Scalar.extui v307
  let c0_i32_217 : BitVec 32 := 0#32
  let v309 : BitVec 1 := Scalar.cmpi .slt v305 c0_i32_217
  let v310 : BitVec 32 := Scalar.extui v309
  let v311 : BitVec 32 := Scalar.subi v308 v310
  let c4_i32_215 : BitVec 32 := 4#32
  let c0_i32_218 : BitVec 32 := 0#32
  let v312 : BitVec 1 := Scalar.cmpi .sgt c4_i32_215 c0_i32_218
  let v313 : BitVec 32 := Scalar.extui v312
  let c0_i32_219 : BitVec 32 := 0#32
  let v314 : BitVec 1 := Scalar.cmpi .slt c4_i32_215 c0_i32_219
  let v315 : BitVec 32 := Scalar.extui v314
  let v316 : BitVec 32 := Scalar.subi v313 v315
  let v317 : BitVec 1 := Scalar.cmpi .ne v311 v316
  let v318 : BitVec 32 := Scalar.remsi v305 c4_i32_215
  let c0_i32_220 : BitVec 32 := 0#32
  let v319 : BitVec 1 := Scalar.cmpi .ne v318 c0_i32_220
  let v320 : BitVec 1 := Scalar.andi v317 v319
  let v306 : BitVec 32 := Scalar.divsi v305 c4_i32_215
  let c1_i32_221 : BitVec 32 := 1#32
  let v321 : BitVec 32 := Scalar.subi v306 c1_i32_221
  let v322 : BitVec 32 := Scalar.select v320 v321 v306
  let c8_i32_222 : BitVec 32 := 8#32
  let v323 : BitVec 32 := Scalar.muli v322 c8_i32_222
  let c4_i32_223 : BitVec 32 := 4#32
  let c0_i32_224 : BitVec 32 := 0#32
  let v324 : BitVec 1 := Scalar.cmpi .eq c4_i32_223 c0_i32_224
  let c1_i32_225 : BitVec 32 := 1#32
  let v325 : BitVec 32 := Scalar.select v324 c1_i32_225 c4_i32_223
  let v326 : BitVec 32 := Scalar.remsi v305 v325
  let c0_i32_227 : BitVec 32 := 0#32
  let v328 : BitVec 1 := Scalar.cmpi .slt v326 c0_i32_227
  let c0_i32_228 : BitVec 32 := 0#32
  let v329 : BitVec 1 := Scalar.cmpi .slt v325 c0_i32_228
  let v330 : BitVec 1 := Scalar.xori v328 v329
  let c0_i32_226 : BitVec 32 := 0#32
  let v327 : BitVec 1 := Scalar.cmpi .ne v326 c0_i32_226
  let v331 : BitVec 1 := Scalar.andi v330 v327
  let v332 : BitVec 32 := Scalar.addi v326 v325
  let v333 : BitVec 32 := Scalar.select v331 v332 v326
  let c256_i32_229 : BitVec 32 := 256#32
  let v334 : BitVec 32 := Scalar.muli v333 c256_i32_229
  ![v323.toNat, v334.toNat]
def k0_off360 (i : grid0.Coords) (c30_i32 : BitVec 32) : Fin 3 → Nat :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_32 : BitVec 32 := 32#32
  let v71 : BitVec 32 := Scalar.muli v1 c32_i32_32
  let v72 : BitVec 32 := Scalar.addi v71 c30_i32
  let c0_i32_34 : BitVec 32 := 0#32
  let v74 : BitVec 1 := Scalar.cmpi .sgt v72 c0_i32_34
  let v75 : BitVec 32 := Scalar.extui v74
  let c0_i32_35 : BitVec 32 := 0#32
  let v76 : BitVec 1 := Scalar.cmpi .slt v72 c0_i32_35
  let v77 : BitVec 32 := Scalar.extui v76
  let v78 : BitVec 32 := Scalar.subi v75 v77
  let c4_i32_33 : BitVec 32 := 4#32
  let c0_i32_36 : BitVec 32 := 0#32
  let v79 : BitVec 1 := Scalar.cmpi .sgt c4_i32_33 c0_i32_36
  let v80 : BitVec 32 := Scalar.extui v79
  let c0_i32_37 : BitVec 32 := 0#32
  let v81 : BitVec 1 := Scalar.cmpi .slt c4_i32_33 c0_i32_37
  let v82 : BitVec 32 := Scalar.extui v81
  let v83 : BitVec 32 := Scalar.subi v80 v82
  let v84 : BitVec 1 := Scalar.cmpi .ne v78 v83
  let v85 : BitVec 32 := Scalar.remsi v72 c4_i32_33
  let c0_i32_38 : BitVec 32 := 0#32
  let v86 : BitVec 1 := Scalar.cmpi .ne v85 c0_i32_38
  let v87 : BitVec 1 := Scalar.andi v84 v86
  let v73 : BitVec 32 := Scalar.divsi v72 c4_i32_33
  let c1_i32_39 : BitVec 32 := 1#32
  let v88 : BitVec 32 := Scalar.subi v73 c1_i32_39
  let v89 : BitVec 32 := Scalar.select v87 v88 v73
  let c8_i32_40 : BitVec 32 := 8#32
  let v90 : BitVec 32 := Scalar.muli v89 c8_i32_40
  let c4_i32_41 : BitVec 32 := 4#32
  let c0_i32_42 : BitVec 32 := 0#32
  let v91 : BitVec 1 := Scalar.cmpi .eq c4_i32_41 c0_i32_42
  let c1_i32_43 : BitVec 32 := 1#32
  let v92 : BitVec 32 := Scalar.select v91 c1_i32_43 c4_i32_41
  let v93 : BitVec 32 := Scalar.remsi v72 v92
  let c0_i32_45 : BitVec 32 := 0#32
  let v95 : BitVec 1 := Scalar.cmpi .slt v93 c0_i32_45
  let c0_i32_46 : BitVec 32 := 0#32
  let v96 : BitVec 1 := Scalar.cmpi .slt v92 c0_i32_46
  let v97 : BitVec 1 := Scalar.xori v95 v96
  let c0_i32_44 : BitVec 32 := 0#32
  let v94 : BitVec 1 := Scalar.cmpi .ne v93 c0_i32_44
  let v98 : BitVec 1 := Scalar.andi v97 v94
  let v99 : BitVec 32 := Scalar.addi v93 v92
  let v100 : BitVec 32 := Scalar.select v98 v99 v93
  let c256_i32_47 : BitVec 32 := 256#32
  let v101 : BitVec 32 := Scalar.muli v100 c256_i32_47
  ![0, v90.toNat, v101.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S2048x21x1024 : Shape := ⟨3, ![2048, 21, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S_ : Shape := ⟨0, ![]⟩
abbrev S2048x1024x1 : Shape := ⟨3, ![2048, 1024, 1]⟩
abbrev S2048x1024x3 : Shape := ⟨3, ![2048, 1024, 3]⟩
abbrev S2048x1024x21 : Shape := ⟨3, ![2048, 1024, 21]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .i32⟩
  | .hbm, ⟨1, _⟩ => ⟨S2048x21x1024, .f32⟩
  | .hbm, ⟨2, _⟩ => ⟨S2048, .i32⟩
  | .hbm, ⟨3, _⟩ => ⟨S2048x1, .i32⟩
  | .hbm, ⟨4, _⟩ => ⟨S1024, .i32⟩
  | .hbm, ⟨5, _⟩ => ⟨S1x1024, .i32⟩
  | .hbm, ⟨6, _⟩ => ⟨S_, .i32⟩
  | .hbm, ⟨7, _⟩ => ⟨S2048x1, .i32⟩
  | .hbm, ⟨8, _⟩ => ⟨S2048x1, .i1⟩
  | .hbm, ⟨9, _⟩ => ⟨S_, .i32⟩
  | .hbm, ⟨10, _⟩ => ⟨S2048x1, .i32⟩
  | .hbm, ⟨11, _⟩ => ⟨S2048x1, .i32⟩
  | .hbm, ⟨12, _⟩ => ⟨S2048x1, .i32⟩
  | .hbm, ⟨13, _⟩ => ⟨S_, .i32⟩
  | .hbm, ⟨14, _⟩ => ⟨S2048x1024, .i32⟩
  | .hbm, ⟨15, _⟩ => ⟨S2048x1024, .i1⟩
  | .hbm, ⟨16, _⟩ => ⟨S_, .i32⟩
  | .hbm, ⟨17, _⟩ => ⟨S2048x1024, .i32⟩
  | .hbm, ⟨18, _⟩ => ⟨S2048x1024, .i32⟩
  | .hbm, ⟨19, _⟩ => ⟨S2048x1024, .i32⟩
  | .hbm, ⟨20, _⟩ => ⟨S_, .i32⟩
  | .hbm, ⟨21, _⟩ => ⟨S1x1024, .i32⟩
  | .hbm, ⟨22, _⟩ => ⟨S1x1024, .i1⟩
  | .hbm, ⟨23, _⟩ => ⟨S_, .i32⟩
  | .hbm, ⟨24, _⟩ => ⟨S1x1024, .i32⟩
  | .hbm, ⟨25, _⟩ => ⟨S1x1024, .i32⟩
  | .hbm, ⟨26, _⟩ => ⟨S1x1024, .i32⟩
  | .hbm, ⟨27, _⟩ => ⟨S2048x1024, .i32⟩
  | .hbm, ⟨28, _⟩ => ⟨S2048x1024, .i32⟩
  | .hbm, ⟨29, _⟩ => ⟨S2048x1024x1, .i32⟩
  | .hbm, ⟨30, _⟩ => ⟨S2048x1024x1, .i32⟩
  | .hbm, ⟨31, _⟩ => ⟨S2048x1024x1, .i32⟩
  | .hbm, ⟨32, _⟩ => ⟨S2048x1024x3, .i32⟩
  | .hbm, ⟨33, _⟩ => ⟨S_, .f32⟩
  | .hbm, ⟨34, _⟩ => ⟨S2048x1024, .f32⟩
  | .hbm, ⟨35, _⟩ => ⟨S2048x21x1024, .f32⟩
  | .hbm, ⟨36, _⟩ => ⟨S2048x1024x21, .f32⟩
  | _, _ => ⟨S2048x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Trip.lean ====
/- One trip of a row's loop, for any row: sixteen index words are read, and for each of the twenty-one letters the
   sixteen lanes that are one where the word is that letter, and zero elsewhere, are stored. The printed program spells
   this out sixteen times, once for each row of each of the two buffers; here each printed trip is shown to be this one. -/
module

public import proofs.«01_k».proof.Proof.Gen.KernelIdeal.Skeleton

@[expose] public section

noncomputable section

namespace Cert.Proof

open Idealize.ShloMosaic Idealize.SL.Sem
open Cert.KernelIdeal Cert.KernelIdeal.Gen

/-- Sixteen trips, counted by ones. -/
@[reducible] def rowLoop : Scf.Loop 32 := ⟨0#32, Scalar.addi 0#32 16#32, 1#32⟩

/-- The column a trip starts at, as the program computes it. -/
def colWord (t : Fin rowLoop.trips) : BitVec 32 := Scalar.addi 0#32 (Scalar.muli (Scf.iv 0#32 1#32 t) 16#32)

/-- Where a trip's index words lie. -/
def offI (r : Nat) (t : Fin rowLoop.trips) : Fin 2 → Nat := ![r, (Scalar.indexCast (colWord t)).toNat]

/-- Where a trip's lanes for letter `a` lie. -/
def offB (r a : Nat) (t : Fin rowLoop.trips) : Fin 3 → Nat := ![a, r, (Scalar.indexCast (colWord t)).toNat]

theorem colWord_eq : ∀ t : Fin rowLoop.trips, (Scalar.indexCast (colWord t)).toNat = 16 * t.val := by decide +kernel

theorem offI_inb (r : Fin 8) (t : Fin rowLoop.trips) (a : Fin 2) : offI r.val t a + S1x16.size a ≤ S8x256.size a := by
  have h := colWord_eq t
  have ht : t.val < 16 := t.isLt
  have hr := r.isLt
  fin_cases a
  · change r.val + 1 ≤ 8; omega
  · change (Scalar.indexCast (colWord t)).toNat + 16 ≤ 256; omega

theorem offB_inb (r : Fin 8) (a : Fin 21) (t : Fin rowLoop.trips) (x : Fin 3) :
    offB r.val a.val t x + S1x1x16.size x ≤ S21x8x256.size x := by
  have h := colWord_eq t
  have ht : t.val < 16 := t.isLt
  have hr := r.isLt
  have ha := a.isLt
  fin_cases x
  · change a.val + 1 ≤ 21; omega
  · change r.val + 1 ≤ 8; omega
  · change (Scalar.indexCast (colWord t)).toNat + 16 ≤ 256; omega

variable {F : FTy → Type} [FloatOps F]

/-- The lanes stored for letter `a`. -/
def lanes (a : Nat) (v2 v3 : FVec F S16 .f32) (w : Vec F S1x16 .i32) : FVec F S1x1x16 .f32 :=
  shapeCast S1x1x16 (select (cmpi .eq (shapeCast S16 w shapeCasts_S1x16_S16) (broadcast S16 (BitVec.ofNat 32 a))) v2 v3)
    shapeCasts_S16_S1x1x16

/-- Where letter `a`'s lanes of row `r` lie in the staging buffer, at trip `t`. -/
abbrev rectB (r : Fin 8) (t : Fin rowLoop.trips) (a : Fin 21) : Rect S21x8x256 :=
  Rect.unit (s := S21x8x256) (offB r.val a.val t) S1x1x16.size (offB_inb r a t)

/-- Where a trip's index words lie. -/
abbrev rectI (r : Fin 8) (t : Fin rowLoop.trips) : Rect S8x256 :=
  Rect.unit (s := S8x256) (offI r.val t) S1x16.size (offI_inb r t)

/-- The vector subcore at grid position `i`. -/
abbrev vth (i : grid0.Coords) : Proc τ := .scVector ((i 0).castLE hcore0) ((i 1).castLE hsub0)

/-- The letters of a list, in turn. -/
def letters (i : grid0.Coords) (buf : Memref sig .scVector .vmem S21x8x256 .f32) (v2 v3 : FVec F S16 .f32) (r : Fin 8) (t : Fin rowLoop.trips)
    (w : Vec F S1x16 .i32) : List (Fin 21) → Prog (TpuEff nD τ sig (Elt F) Λ₀ (vth i)) Unit
  | [] => pure ⟨⟩
  | a :: l => do
    let _ : Vec F S1x1x16 .f32 ← Prog.lift (.load buf (rectB r t a).toLoadRect (View.loadsAt_vmem h_S1x1x16))
    Prog.lift (.store buf (rectB r t a) (lanes a.val v2 v3 w) Finset.univ (View.stores_vmem_bits_univ h_S1x1x16 rfl) (.inl rfl))
    letters i buf v2 v3 r t w l

/-- One trip of row `r`'s loop. -/
def trip (i : grid0.Coords) (idx : Memref sig .scVector .vmem S8x256 .i32) (buf : Memref sig .scVector .vmem S21x8x256 .f32) (v2 v3 : FVec F S16 .f32)
    (r : Fin 8) (t : Fin rowLoop.trips) : Prog (TpuEff nD τ sig (Elt F) Λ₀ (vth i)) Unit := do
  let w : Vec F S1x16 .i32 ← Prog.lift (.load idx (rectI r t).toLoadRect (View.loadsAt_vmem h_S1x16))
  letters i buf v2 v3 r t w (List.finRange 21)

end Cert.Proof

end
-- ==== Proof.Base.lean ====
/- The program as the launch theorem sees it, and the resources the proofs of this certificate are stated over: the
   launch's handshakes beside the counters of a subcore's own transfers. -/
module

public import proofs.«01_k».proof.Proof.Trip
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The resources: the launch's handshakes on the left, the transfers' counters on the right. -/
abbrev MM (F : FTy → Type) : Type := MT nD τ sig (HIx 1) (Elt F) ℕ UU ℕ

abbrev EH : Emb UH (MM F) := embL

/-- The thread of the vector subcore at grid position `i` of device `d`. -/
abbrev tile (d : Dev nD) (i : grid0.Coords) : Thread nD τ := (d, vth i)

end Cert.Proof

end
-- ==== Proof.Fill.lean ====
/- What one fill of a staging buffer leaves: sixteen lanes at a time, row by row, the buffer becomes the one-hot
   expansion of the index block, letter by letter. -/
module

public import proofs.«01_k».proof.Proof.Base
public import Idealize.ShloMosaic.Lib.WordCmp

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

/-- The place in the index block under a place of the staging buffer. -/
def under (y : S21x8x256.Idx) : S8x256.Idx := fun | ⟨0, _⟩ => y 1 | ⟨1, _⟩ => y 2

/-- The one-hot expansion of a block of index words. -/
def hot (one zero : F .f32) (X : S8x256.Idx → BitVec 32) : S21x8x256.Idx → F .f32 :=
  fun y => if X (under y) = BitVec.ofNat 32 (y 0).val then one else zero

/-- The first word of the sixteen, moved along. -/
def lane (x : S1x1x16.Idx) : S1x16.Idx := fun | ⟨0, _⟩ => (0 : Fin 1) | ⟨1, _⟩ => x 2

theorem lanes_apply (a : Nat) (one zero : F .f32) (w : Vec F S1x16 .i32) (x : S1x1x16.Idx) :
    lanes a (broadcast S16 one) (broadcast S16 zero) w x = if w (lane x) = BitVec.ofNat 32 a then one else zero := by
  have h0 : (x 0).val < 1 := (x 0).isLt
  have h1 : (x 1).val < 1 := (x 1).isLt
  let k : S16.Idx := fun | ⟨0, _⟩ => x 2
  have hk : (S16.rowMajor k).val = (S1x1x16.rowMajor x).val := by
    rw [Shape.rowMajor_val_one, Shape.rowMajor_val_three]
    show (x 2).val = ((x 0).val * 1 + (x 1).val) * 16 + (x 2).val
    omega
  have hl : (S1x16.rowMajor (lane x)).val = (S16.rowMajor k).val := by
    rw [Shape.rowMajor_val_one, Shape.rowMajor_val_two]
    show 0 * 16 + (x 2).val = (x 2).val
    omega
  unfold lanes
  rw [shapeCast_apply _ _ x k hk]
  show Scalar.select (IntOp.cmpi .eq (shapeCast S16 w shapeCasts_S1x16_S16 k) (BitVec.ofNat 32 a)) one zero = _
  rw [shapeCast_apply _ _ k (lane x) hl, WordCmp.cmpi_eq_eq]
  by_cases h : w (lane x) = BitVec.ofNat 32 a
  · simp [h, Scalar.select]
  · simp [h, Scalar.select]

/-- The place a trip of row `r` reaches: its letter-`a` lanes. -/
def Lies (r : Fin 8) (t : Fin rowLoop.trips) (y : S21x8x256.Idx) : Prop :=
  (y 1).val = r.val ∧ 16 * t.val ≤ (y 2).val ∧ (y 2).val < 16 * t.val + 16

theorem mem_rectB (r : Fin 8) (t : Fin rowLoop.trips) (a : Fin 21) (y : S21x8x256.Idx) :
    y ∈ (rectB r t a).set ↔ (y 0).val = a.val ∧ Lies r t y := by
  have hc := colWord_eq t
  rw [Rect.mem_set_unit]
  unfold Lies
  constructor
  · intro h
    have h0 := h 0; have h1 := h 1; have h2 := h 2
    change a.val ≤ (y 0).val ∧ (y 0).val < a.val + 1 at h0
    change r.val ≤ (y 1).val ∧ (y 1).val < r.val + 1 at h1
    change (Scalar.indexCast (colWord t)).toNat ≤ (y 2).val ∧ (y 2).val < (Scalar.indexCast (colWord t)).toNat + 16 at h2
    omega
  · rintro ⟨h0, h1, h2, h3⟩ x
    fin_cases x
    · change a.val ≤ (y 0).val ∧ (y 0).val < a.val + 1; omega
    · change r.val ≤ (y 1).val ∧ (y 1).val < r.val + 1; omega
    · change (Scalar.indexCast (colWord t)).toNat ≤ (y 2).val ∧ (y 2).val < (Scalar.indexCast (colWord t)).toNat + 16; omega

/-- The index word a lane comes from is the one under it. -/
theorem idx_lane (r : Fin 8) (t : Fin rowLoop.trips) (a : Fin 21) (x : S1x1x16.Idx) :
    (rectI r t).toLoadRect.idx (lane x) = under ((rectB r t a).emb x) := by
  have h1 : (x 1).val < 1 := (x 1).isLt
  funext b
  fin_cases b
  · apply Fin.ext
    show r.val + 1 * 0 = r.val + 1 * (x 1).val
    omega
  · rfl

theorem emb_zero (r : Fin 8) (t : Fin rowLoop.trips) (a : Fin 21) (x : S1x1x16.Idx) : (((rectB r t a).emb x) 0).val = a.val := by
  have h0 : (x 0).val < 1 := (x 0).isLt
  show a.val + 1 * (x 0).val = a.val
  omega

theorem lanes_hot (r : Fin 8) (t : Fin rowLoop.trips) (a : Fin 21) (one zero : F .f32) (X : S8x256.Idx → BitVec 32) (w : Vec F S1x16 .i32)
    (hw : ∀ x, w x = X ((rectI r t).toLoadRect.idx x)) (x : S1x1x16.Idx) :
    lanes a.val (broadcast S16 one) (broadcast S16 zero) w x = hot one zero X ((rectB r t a).emb x) := by
  rw [lanes_apply, hw, idx_lane r t a]
  unfold hot
  rw [emb_zero r t a x]

section Run

variable (d : Dev nD) (i : grid0.Coords)
  (idx : Memref sig .scVector .vmem S8x256 .i32) (buf : Memref sig .scVector .vmem S21x8x256 .f32)
  (one zero : F .f32)

/-- The wp of this subcore's kernel program. -/
abbrev wpT {α : Type} (p : Prog (TpuEff nD τ sig (Elt F) Λ₀ (vth i)) α) (Q : α → sProp 𝕄) : sProp 𝕄 :=
  wp frame (wpE (defs₀ (F := F)) 𝒱₀ (tile d i) none) Set.univ p Q

/-- The staging buffer holds `G` wherever `P` says. -/
def Holds (G : S21x8x256.Idx → F .f32) (P : S21x8x256.Idx → Prop) : sProp 𝕄 :=
  iprop(∃ f, ⌜∀ y, P y → buf.view.read (Elt F) f y = G y⌝ ∗ (buf.view.loc (tile d i) ↦{fullShare} f))

theorem wp_letters (r : Fin 8) (t : Fin rowLoop.trips) (X : S8x256.Idx → BitVec 32) (w : Vec F S1x16 .i32)
    (hw : ∀ x, w x = X ((rectI r t).toLoadRect.idx x)) (l : List (Fin 21)) :
    ∀ (P : S21x8x256.Idx → Prop) (Q : Unit → sProp 𝕄),
      Holds d i buf (hot one zero X) P
        ⊢ iprop((Holds d i buf (hot one zero X) (fun y => P y ∨ (∃ a ∈ l, (y 0).val = a.val) ∧ Lies r t y) -∗ Q ⟨⟩)
          -∗ wpT d i (letters i buf (broadcast S16 one) (broadcast S16 zero) r t w l) Q) := by
  induction l with
  | nil =>
    intro P Q
    unfold wpT
    rw [show letters i buf (broadcast S16 one) (broadcast S16 zero) r t w [] = (.ret ⟨⟩ : Prog _ Unit) from rfl, wp_ret]
    unfold Holds
    iintro ⟨%f, %hf, Hf⟩ HQ
    imodintro
    iapply HQ
    iexists f
    isplitr
    · ipureintro
      rintro y (hy | ⟨⟨a, ha, _⟩, _⟩)
      · exact hf y hy
      · exact absurd ha List.not_mem_nil
    · iexact Hf
  | cons a l ih =>
    intro P Q
    have hstep := ih (fun y => P y ∨ y ∈ (rectB r t a).set) Q
    unfold wpT at hstep ⊢
    rw [show letters i buf (broadcast S16 one) (broadcast S16 zero) r t w (a :: l)
      = (.op (.load buf (rectB r t a).toLoadRect (View.loadsAt_vmem h_S1x1x16)) fun _ =>
          .op (.store buf (rectB r t a) (lanes a.val (broadcast S16 one) (broadcast S16 zero) w) Finset.univ
              (View.stores_vmem_bits_univ h_S1x1x16 rfl) (.inl rfl)) fun _ =>
            letters i buf (broadcast S16 one) (broadcast S16 zero) r t w l) from rfl]
    unfold Holds
    iintro ⟨%f, %hf, Hf⟩ HQ
    iapply (wp_load 𝒱₀ (tile d i) none Set.univ (m := buf) (r := (rectB r t a).toLoadRect) (Finset.subset_univ _)) $$ Hf
    iintro Hf
    iapply (wp_store_writes₀ 𝒱₀ (tile d i) none Set.univ (m := buf) (r := rectB r t a) (Finset.subset_univ _)) $$ Hf
    iintro Hf
    unfold Holds at hstep
    iapply hstep $$ [Hf]
    · iexists _
      isplitr
      swap
      · iexact Hf
      ipureintro
      intro y hy
      by_cases hm : y ∈ (rectB r t a).set
      · obtain ⟨x, hx⟩ := (rectB r t a).exists_idx_of_mem hm
        exact (View.read_writes_cons_hit buf.view f (rectB r t a) (lanes a.val (broadcast S16 one) (broadcast S16 zero) w) [] x y hx).trans
          ((lanes_hot r t a one zero X w hw x).trans (congrArg (hot one zero X) hx))
      · exact (View.read_writes_cons_miss buf.view f ⟨rectB r t a, lanes a.val (broadcast S16 one) (broadcast S16 zero) w⟩ [] y hm).trans
          (hf y (hy.resolve_right hm))
    · iintro ⟨%g, %hg, Hg⟩
      iapply HQ
      iexists g
      isplitr
      · ipureintro
        rintro y (hy | ⟨⟨b, hb, hyb⟩, hl⟩)
        · exact hg y (.inl (.inl hy))
        · rcases List.mem_cons.mp hb with rfl | hb
          · exact hg y (.inl (.inr ((mem_rectB r t _ y).mpr ⟨hyb, hl⟩)))
          · exact hg y (.inr ⟨⟨b, hb, hyb⟩, hl⟩)
      · iexact Hg

/-- Everything above row `r`, and row `r` below column `16 * n`. -/
def Done (r n : Nat) (y : S21x8x256.Idx) : Prop := (y 1).val < r ∨ (y 1).val = r ∧ (y 2).val < 16 * n

/-- The index block held, and the staging buffer filled as far as row `r`'s first `n` trips. -/
def Filled (X : Buf (Elt F) (idx.view.loc (tile d i))) (r n : Nat) : sProp 𝕄 :=
  iprop((idx.view.loc (tile d i) ↦{fullShare} X) ∗ Holds d i buf (hot one zero (idx.view.read (Elt F) X)) (Done r n))

theorem wp_trip (X : Buf (Elt F) (idx.view.loc (tile d i))) (r : Fin 8) (t : Fin rowLoop.trips) (acc : PUnit) :
    Filled d i idx buf one zero X r.val t.val
      ⊢ wpT d i (trip i idx buf (broadcast S16 one) (broadcast S16 zero) r t) (fun _ => Filled d i idx buf one zero X r.val (t.val + 1)) := by
  unfold wpT
  rw [show trip i idx buf (broadcast S16 one) (broadcast S16 zero) r t
    = (.op (.load idx (rectI r t).toLoadRect (View.loadsAt_vmem h_S1x16)) fun w =>
        letters i buf (broadcast S16 one) (broadcast S16 zero) r t w (List.finRange 21)) from rfl]
  unfold Filled
  iintro ⟨HX, Hb⟩
  iapply (wp_load 𝒱₀ (tile d i) none Set.univ (m := idx) (r := (rectI r t).toLoadRect) (Finset.subset_univ _)) $$ HX
  iintro HX
  iapply (wp_letters d i buf one zero r t (idx.view.read (Elt F) X) _ (fun x => rfl) (List.finRange 21) (Done r.val t.val)) $$ Hb
  iintro Hb
  isplitl [HX]; · iexact HX
  unfold Holds
  icases Hb with ⟨%f, %hf, Hf⟩
  iexists f
  isplitr
  · ipureintro
    intro y hy
    refine hf y ?_
    unfold Done at hy ⊢
    unfold Lies
    have hex : ∃ a ∈ List.finRange 21, (y 0).val = a.val := ⟨y 0, List.mem_finRange _, rfl⟩
    rcases hy with hy | ⟨h1, h2⟩
    · exact .inl (.inl hy)
    · by_cases h : (y 2).val < 16 * t.val
      · exact .inl (.inr ⟨h1, h⟩)
      · exact .inr ⟨hex, h1, by omega, by omega⟩
  · iexact Hf

/-- One row's loop. -/
theorem wp_row (X : Buf (Elt F) (idx.view.loc (tile d i))) (r : Fin 8) (ok : rowLoop.OK) {β : Type}
    {body : Fin rowLoop.trips → PUnit → Prog (TpuEff nD τ sig (Elt F) Λ₀ (vth i)) PUnit}
    (hb : body = fun t _ => trip i idx buf (broadcast S16 one) (broadcast S16 zero) r t)
    {kk : PUnit → Prog (TpuEff nD τ sig (Elt F) Λ₀ (vth i)) β} {Q : β → sProp 𝕄} :
    Filled d i idx buf one zero X r.val 0
      ⊢ iprop((Filled d i idx buf one zero X (r.val + 1) 0 -∗ wpT d i (kk ⟨⟩) Q) -∗ wpT d i (Scf.Loop.for rowLoop ok ⟨⟩ body >>= kk) Q) := by
  subst hb
  refine (Scf.wp_for_bind frame _ Set.univ rowLoop.lb rowLoop.ub rowLoop.st ok ⟨⟩ _ (fun n _ => Filled d i idx buf one zero X r.val n)
    (fun t acc => wp_trip d i idx buf one zero X r t acc) (kk := kk) (Q := Q)).trans ?_
  iintro H HK
  iapply H
  iintro %acc HF
  iapply HK
  unfold Filled
  icases HF with ⟨HX, Hb⟩
  isplitl [HX]; · iexact HX
  unfold Holds
  icases Hb with ⟨%f, %hf, Hf⟩
  iexists f
  isplitr
  · ipureintro
    intro y hy
    refine hf y ?_
    have h2 : (y 2).val < 256 := (y 2).isLt
    have ht : Scf.trips rowLoop.lb rowLoop.ub rowLoop.st = 16 := by decide +kernel
    unfold Done at hy ⊢
    rw [ht]
    omega
  · iexact Hf

end Run

end Cert.Proof

end
-- ==== Proof.Chunks.lean ====
/- The chunks a subcore works through: where chunk `m`'s eight rows and 256 columns lie, as the kernel computes them and
   as numbers. Chunk `m` is rows `8 * (m / 4)` on and columns `256 * (m % 4)` on; subcore `(c, j)` has the thirty-two chunks
   from `32 * (2 * j + c)`. -/
module

public import proofs.«01_k».proof.Proof.Fill

@[expose] public section

noncomputable section

namespace Cert.Proof

open Cert.KernelIdeal Cert.KernelIdeal.Gen
open Idealize.ShloMosaic

/-- The quotient by four, rounded down, as the kernel spells it. -/
def quarter (v : BitVec 32) : BitVec 32 :=
  let s : BitVec 32 := Scalar.subi (Scalar.extui (Scalar.cmpi .sgt v 0#32)) (Scalar.extui (Scalar.cmpi .slt v 0#32))
  let s4 : BitVec 32 := Scalar.subi (Scalar.extui (Scalar.cmpi .sgt 4#32 0#32)) (Scalar.extui (Scalar.cmpi .slt 4#32 0#32))
  let q : BitVec 32 := Scalar.divsi v 4#32
  Scalar.select (Scalar.andi (Scalar.cmpi .ne s s4) (Scalar.cmpi .ne (Scalar.remsi v 4#32) 0#32)) (Scalar.subi q 1#32) q

/-- The remainder by four, with the divisor's sign, as the kernel spells it. -/
def rest (v : BitVec 32) : BitVec 32 :=
  let d : BitVec 32 := Scalar.select (Scalar.cmpi .eq 4#32 0#32) 1#32 4#32
  let r : BitVec 32 := Scalar.remsi v d
  Scalar.select (Scalar.andi (Scalar.xori (Scalar.cmpi .slt r 0#32) (Scalar.cmpi .slt d 0#32)) (Scalar.cmpi .ne r 0#32)) (Scalar.addi r d) r

/-- A chunk word's first row and first column. -/
def rowWord (v : BitVec 32) : BitVec 32 := Scalar.muli (quarter v) 8#32
def colStart (v : BitVec 32) : BitVec 32 := Scalar.muli (rest v) 256#32

theorem rowWord_eq : ∀ m : Fin 1024, (rowWord (BitVec.ofNat 32 m.val)).toNat = 8 * (m.val / 4) := by decide +kernel
theorem colStart_eq : ∀ m : Fin 1024, (colStart (BitVec.ofNat 32 m.val)).toNat = 256 * (m.val % 4) := by decide +kernel

/-- The chunk word: a subcore's base and its own count. -/
def chunkWord (i : grid0.Coords) (k : BitVec 32) : BitVec 32 :=
  Scalar.addi (Scalar.muli (Scalar.addi (Scalar.muli (BitVec.ofNat 32 (i 1).val) 2#32) (BitVec.ofNat 32 (i 0).val)) 32#32) k

/-- The subcore's first chunk. -/
def first (i : grid0.Coords) : Nat := 32 * (2 * (i 1).val + (i 0).val)

theorem first_lt (i : grid0.Coords) : first i + 32 ≤ 1024 := by
  have h0 : (i 0).val < 2 := (i 0).isLt
  have h1 : (i 1).val < 16 := (i 1).isLt
  unfold first; omega

theorem chunkWord_nums : ∀ (a : Fin 16) (b : Fin 2) (k : Fin 32),
    Scalar.addi (Scalar.muli (Scalar.addi (Scalar.muli (BitVec.ofNat 32 a.val) 2#32) (BitVec.ofNat 32 b.val)) 32#32) (BitVec.ofNat 32 k.val)
      = BitVec.ofNat 32 (32 * (2 * a.val + b.val) + k.val) := by decide +kernel

theorem chunkWord_eq (i : grid0.Coords) (k : BitVec 32) (n : Nat) (hn : n < 32) (hk : k = BitVec.ofNat 32 n) :
    chunkWord i k = BitVec.ofNat 32 (first i + n) := by
  subst hk
  exact chunkWord_nums ⟨(i 1).val, (i 1).isLt⟩ ⟨(i 0).val, (i 0).isLt⟩ ⟨n, hn⟩

theorem rowWord_chunk (i : grid0.Coords) (k : BitVec 32) (n : Nat) (hn : n < 32) (hk : k = BitVec.ofNat 32 n) :
    (rowWord (chunkWord i k)).toNat = 8 * ((first i + n) / 4) := by
  have h := first_lt i
  rw [chunkWord_eq i k n hn hk]
  exact rowWord_eq ⟨first i + n, by omega⟩

theorem colStart_chunk (i : grid0.Coords) (k : BitVec 32) (n : Nat) (hn : n < 32) (hk : k = BitVec.ofNat 32 n) :
    (colStart (chunkWord i k)).toNat = 256 * ((first i + n) % 4) := by
  have h := first_lt i
  rw [chunkWord_eq i k n hn hk]
  exact colStart_eq ⟨first i + n, by omega⟩

/-- Chunk `m`'s offsets in the index array and in the result. -/
def offIn (m : Nat) : Fin 2 → Nat := ![8 * (m / 4), 256 * (m % 4)]
def offOut (m : Nat) : Fin 3 → Nat := ![0, 8 * (m / 4), 256 * (m % 4)]

/-- A trip's count, twice and one of two more. -/
def tripWord (t : Fin k0_t1_loop.trips) (b : BitVec 32) : BitVec 32 :=
  Scalar.addi (Scalar.muli (Scalar.addi 0#32 (Scalar.muli (Scf.iv 0#32 1#32 t) 1#32)) 2#32) b

theorem tripWord_eq : ∀ (t : Fin k0_t1_loop.trips) (b : Fin 2), tripWord t (BitVec.ofNat 32 b.val) = BitVec.ofNat 32 (2 * t.val + b.val) := by
  decide +kernel
theorem tripWord_next : ∀ (t : Fin k0_t1_loop.trips) (b : Fin 2),
    Scalar.addi (tripWord t (BitVec.ofNat 32 b.val)) 2#32 = BitVec.ofNat 32 (2 * (t.val + 1) + b.val) := by
  decide +kernel

theorem trips_eq : k0_t1_loop.trips = 16 := by decide +kernel

theorem off1_eq (i : grid0.Coords) (b : Fin 2) : k0_off1 i (BitVec.ofNat 32 b.val) = offIn (first i + b.val) := by
  have hb := b.isLt
  rw [show k0_off1 i (BitVec.ofNat 32 b.val) = ![(rowWord (chunkWord i (BitVec.ofNat 32 b.val))).toNat, (colStart (chunkWord i (BitVec.ofNat 32 b.val))).toNat] from rfl,
    rowWord_chunk i _ b.val (by omega) rfl, colStart_chunk i _ b.val (by omega) rfl]
  rfl

theorem off180_eq (i : grid0.Coords) (t : Fin k0_t1_loop.trips) (b : Fin 2) :
    k0_off180 i t (BitVec.ofNat 32 b.val) = offOut (first i + (2 * t.val + b.val)) := by
  have hb := b.isLt
  have ht : t.val < 16 := lt_of_lt_of_eq t.isLt trips_eq
  rw [show k0_off180 i t (BitVec.ofNat 32 b.val)
      = ![0, (rowWord (chunkWord i (tripWord t (BitVec.ofNat 32 b.val)))).toNat, (colStart (chunkWord i (tripWord t (BitVec.ofNat 32 b.val)))).toNat] from rfl,
    rowWord_chunk i _ _ (by omega) (tripWord_eq t b), colStart_chunk i _ _ (by omega) (tripWord_eq t b)]
  rfl

theorem off181_eq (i : grid0.Coords) (t : Fin k0_t1_loop.trips) (ht : t.val + 1 < 16) :
    k0_off181 i t = offIn (first i + (2 * (t.val + 1) + 0)) := by
  rw [show k0_off181 i t
      = ![(rowWord (chunkWord i (Scalar.addi (tripWord t 0#32) 2#32))).toNat, (colStart (chunkWord i (Scalar.addi (tripWord t 0#32) 2#32))).toNat] from rfl,
    rowWord_chunk i (Scalar.addi (tripWord t 0#32) 2#32) (2 * (t.val + 1) + 0) (by omega) (tripWord_next t 0), colStart_chunk i (Scalar.addi (tripWord t 0#32) 2#32) (2 * (t.val + 1) + 0) (by omega) (tripWord_next t 0)]
  rfl

theorem off359_eq (i : grid0.Coords) (t : Fin k0_t1_loop.trips) (ht : t.val + 1 < 16) :
    k0_off359 i t = offIn (first i + (2 * (t.val + 1) + 1)) := by
  rw [show k0_off359 i t
      = ![(rowWord (chunkWord i (Scalar.addi (tripWord t 1#32) 2#32))).toNat, (colStart (chunkWord i (Scalar.addi (tripWord t 1#32) 2#32))).toNat] from rfl,
    rowWord_chunk i (Scalar.addi (tripWord t 1#32) 2#32) (2 * (t.val + 1) + 1) (by omega) (tripWord_next t 1), colStart_chunk i (Scalar.addi (tripWord t 1#32) 2#32) (2 * (t.val + 1) + 1) (by omega) (tripWord_next t 1)]
  rfl

theorem cond1_iff : ∀ t : Fin k0_t1_loop.trips, k0_cond1 t = 1#1 ↔ 0 < t.val := by decide +kernel
theorem cond2_iff : ∀ t : Fin k0_t1_loop.trips, k0_cond2 t = 1#1 ↔ t.val + 1 < 16 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val + 1 < 16 := by decide +kernel

/-! ## The chunks as sets of places -/

/-- The chunk a place of the index array, or of the result, lies in. -/
def numIn (y : S2048x1024.Idx) : Nat := 4 * ((y 0).val / 8) + (y 1).val / 256
def numOut (y : S21x2048x1024.Idx) : Nat := 4 * ((y 1).val / 8) + (y 2).val / 256

def setIn (m : Nat) : Finset S2048x1024.Idx := Finset.univ.filter fun y => numIn y = m
def setOut (m : Nat) : Finset S21x2048x1024.Idx := Finset.univ.filter fun y => numOut y = m

theorem rectIn_set (off : Fin 2 → Nat) (inb : ∀ a, off a + S8x256.size a ≤ S2048x1024.size a) (m : Nat) (hoff : off = offIn m) :
    (Rect.unit (s := S2048x1024) off S8x256.size inb).set = setIn m := by
  subst hoff
  ext y
  rw [Rect.mem_set_unit]
  unfold setIn numIn
  rw [Finset.mem_filter]
  have hy : (y 1).val < 1024 := (y 1).isLt
  constructor
  · intro h
    have h0 := h 0; have h1 := h 1
    change 8 * (m / 4) ≤ (y 0).val ∧ (y 0).val < 8 * (m / 4) + 8 at h0
    change 256 * (m % 4) ≤ (y 1).val ∧ (y 1).val < 256 * (m % 4) + 256 at h1
    exact ⟨Finset.mem_univ _, by omega⟩
  · rintro ⟨-, h⟩ a
    fin_cases a
    · change 8 * (m / 4) ≤ (y 0).val ∧ (y 0).val < 8 * (m / 4) + 8; omega
    · change 256 * (m % 4) ≤ (y 1).val ∧ (y 1).val < 256 * (m % 4) + 256; omega

theorem rectOut_set (off : Fin 3 → Nat) (inb : ∀ a, off a + S21x8x256.size a ≤ S21x2048x1024.size a) (m : Nat) (hoff : off = offOut m) :
    (Rect.unit (s := S21x2048x1024) off S21x8x256.size inb).set = setOut m := by
  subst hoff
  ext y
  rw [Rect.mem_set_unit]
  unfold setOut numOut
  rw [Finset.mem_filter]
  have hy0 : (y 0).val < 21 := (y 0).isLt
  have hy : (y 2).val < 1024 := (y 2).isLt
  constructor
  · intro h
    have h0 := h 1; have h1 := h 2
    change 8 * (m / 4) ≤ (y 1).val ∧ (y 1).val < 8 * (m / 4) + 8 at h0
    change 256 * (m % 4) ≤ (y 2).val ∧ (y 2).val < 256 * (m % 4) + 256 at h1
    exact ⟨Finset.mem_univ _, by omega⟩
  · rintro ⟨-, h⟩ a
    fin_cases a
    · change 0 ≤ (y 0).val ∧ (y 0).val < 0 + 21; omega
    · change 8 * (m / 4) ≤ (y 1).val ∧ (y 1).val < 8 * (m / 4) + 8; omega
    · change 256 * (m % 4) ≤ (y 2).val ∧ (y 2).val < 256 * (m % 4) + 256; omega

/-- The word under a place of the result. -/
def underAll (y : S21x2048x1024.Idx) : S2048x1024.Idx := fun | ⟨0, _⟩ => y 1 | ⟨1, _⟩ => y 2

/-- The one-hot expansion of all the words. -/
def hotAll {F : FTy → Type} (one zero : F .f32) (A : S2048x1024.Idx → BitVec 32) : S21x2048x1024.Idx → F .f32 :=
  fun y => if A (underAll y) = BitVec.ofNat 32 (y 0).val then one else zero

/-- Chunk by chunk the expansion is the chunk's. -/
theorem hot_chunk {F : FTy → Type} (one zero : F .f32) (A : S2048x1024.Idx → BitVec 32) (m : Nat)
    (o : Fin 3 → Nat) (o2 : Fin 2 → Nat) (ho : o = offOut m) (ho2 : o2 = offIn m)
    (inb : ∀ a, o a + S21x8x256.size a ≤ S21x2048x1024.size a) (inb2 : ∀ a, o2 a + S8x256.size a ≤ S2048x1024.size a) (x : S21x8x256.Idx) :
    hot one zero (fun z => A ((Rect.unit (s := S2048x1024) o2 S8x256.size inb2).emb z)) x
      = hotAll one zero A ((Rect.unit (s := S21x2048x1024) o S21x8x256.size inb).emb x) := by
  subst ho; subst ho2
  have h0 : (((Rect.unit (s := S21x2048x1024) (offOut m) S21x8x256.size inb).emb x) 0).val = (x 0).val := by
    show 0 + 1 * (x 0).val = (x 0).val
    omega
  have hu : (Rect.unit (s := S2048x1024) (offIn m) S8x256.size inb2).emb (under x)
      = underAll ((Rect.unit (s := S21x2048x1024) (offOut m) S21x8x256.size inb).emb x) := by
    funext a
    fin_cases a <;> rfl
  unfold hot hotAll
  rw [h0]
  exact congrArg (fun z => if A z = BitVec.ofNat 32 (x 0).val then one else zero) hu

end Cert.Proof

end
-- ==== Proof.Moves.lean ====
/- The four copies of a chunk's life, each as one step of a subcore's program: the index chunk fetched and waited for, the
   one-hot chunk sent out and waited for. -/
module

public import proofs.«01_k».proof.Proof.Chunks

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

abbrev EC : UEmb Counters (MM F) := countersEmb (U := UU)

/-- The index array and the result on device `d`. -/
abbrev aLoc (d : Dev nD) : Loc nD τ sig := (SparseCore.T d).loc main_arg0
abbrev oLoc (d : Dev nD) : Loc nD τ sig := (SparseCore.T d).loc main_v0

abbrev aV : Memref sig .scVector .hbm S2048x1024 .i32 := Memref.whole main_arg0_scv
abbrev oV : Memref sig .scVector .hbm S21x2048x1024 .f32 := Memref.whole main_v0_scv

/-- Where chunk `n`'s block places an index. -/
def place (n : Nat) (z : S8x256.Idx) : S2048x1024.Idx :=
  fun | ⟨0, _⟩ => ⟨(8 * (n / 4) + (z 0).val) % 2048, Nat.mod_lt _ (by decide)⟩ | ⟨1, _⟩ => ⟨(256 * (n % 4) + (z 1).val) % 1024, Nat.mod_lt _ (by decide)⟩

/-- Chunk `n`'s block of index words. -/
def blockOf (A : S2048x1024.Idx → BitVec 32) (n : Nat) : S8x256.Idx → BitVec 32 := fun z => A (place n z)

theorem emb_place (off : Fin 2 → Nat) (inb : ∀ a, off a + S8x256.size a ≤ S2048x1024.size a) (n : Nat) (hn : n < 1024) (hoff : off = offIn n)
    (z : S8x256.Idx) : (Rect.unit (s := S2048x1024) off S8x256.size inb).emb z = place n z := by
  subst hoff
  have h0 : (z 0).val < 8 := (z 0).isLt
  have h1 : (z 1).val < 256 := (z 1).isLt
  funext a
  fin_cases a
  · apply Fin.ext
    show 8 * (n / 4) + 1 * (z 0).val = (8 * (n / 4) + (z 0).val) % 2048
    omega
  · apply Fin.ext
    show 256 * (n % 4) + 1 * (z 1).val = (256 * (n % 4) + (z 1).val) % 1024
    omega

theorem offIn_inb (n : Nat) (hn : n < 1024) (a : Fin 2) : offIn n a + S8x256.size a ≤ S2048x1024.size a := by
  fin_cases a
  · show 8 * (n / 4) + 8 ≤ 2048; omega
  · show 256 * (n % 4) + 256 ≤ 1024; omega

section Steps

variable (d : Dev nD) (i : grid0.Coords) (A : Buf (Elt F) (aLoc d)) (one zero : F .f32)

/-- Chunk `n` of the index array; of the result, at contents `f`. -/
def inP (n : Nat) : sProp 𝕄 := aLoc d ↦[setIn n]{fullShare} A
def outP (f : Buf (Elt F) (oLoc d)) (n : Nat) : sProp 𝕄 := oLoc d ↦[setOut n]{fullShare} f

section In

variable (idx : Memref sig .scVector .vmem S8x256 .i32) (sm : DmaSem sig)

/-- The index buffer, holding chunk `n`'s words. -/
def IdxIs (n : Nat) : sProp 𝕄 :=
  iprop(∃ X, ⌜idx.view.read (Elt F) X = blockOf A n⌝ ∗ (idx.view.loc (tile d i) ↦{fullShare} X))

/-- Chunk `n` on its way into the index buffer. -/
def InFlight (n : Nat) : sProp 𝕄 :=
  Transfers.Flight EC (tile d i) (.dma sm) (none : HIx 1) idx.view.dmaCredit iprop(IdxIs d i A idx n ∗ inP d A n)

theorem wp_startIn (off : Fin 2 → Nat) (inb : ∀ a, off a + S8x256.size a ≤ S2048x1024.size a) (n : Nat) (hn : n < 1024) (hoff : off = offIn n)
    {hst : ∀ a, (Rect.unit (s := S2048x1024) off S8x256.size inb).stride a = 1}
    {h1 : (aV.slice (Rect.unit (s := S2048x1024) off S8x256.size inb) hst).view.WordExact} {h2 : idx.view.WordExact}
    {h3 : DmaTarget.Typed (nD := nD) (τ := τ) (p := vth i) .hbm (.dma sm) (.here idx)} {α : Type}
    {k : PUnit → Prog (TpuEff nD τ sig (Elt F) Λ₀ (vth i)) α} {Q : α → sProp 𝕄} :
    iprop(inP d A n ∗ (∃ X, idx.view.loc (tile d i) ↦{fullShare} X) ∗ semVal (tile d i, .dma sm) 0)
      ⊢ iprop((InFlight d i A idx sm n -∗ wpT d i (k ⟨⟩) Q)
        -∗ wpT d i (.op (.enqueueDma (aV.slice (Rect.unit (s := S2048x1024) off S8x256.size inb) hst) (.here idx) (.dma sm) h1 h2 h3) k) Q) := by
  have hset : (aV.slice (Rect.unit (s := S2048x1024) off S8x256.size inb) hst).view.set = setIn n :=
    (View.set_slice_whole main_arg0_scv _).trans (rectIn_set off inb n hoff)
  have hread : (aV.slice (Rect.unit (s := S2048x1024) off S8x256.size inb) hst).view.read (Elt F) A = blockOf A n := by
    funext z
    show A ((Rect.unit (s := S2048x1024) off S8x256.size inb).emb z) = A (place n z)
    rw [emb_place off inb n hn hoff]
  iintro ⟨Ha, ⟨%X, HX⟩, Hv⟩ Hk
  iapply (Transfers.wp_dmaLocal EC 𝒱₀ (tile d i) none (src := aV.slice (Rect.unit (s := S2048x1024) off S8x256.size inb) hst) (dst := idx) (via := .same)
    (sm := .dma sm) (fs := A) (fd := X) (q := fullShare) (Sd := Finset.univ) (none : HIx 1) idx.view.dmaCredit rfl
    (View.dmaCredit_pos _ (by decide)) (Finset.subset_univ _)) $$ [Ha HX Hv]
  · isplitl [Ha]
    · rw [hset]; unfold inP; iexact Ha
    isplitl [HX] <;> iassumption
  iintro HF
  iapply Hk
  unfold InFlight
  iapply (Transfers.Flight_mono EC (tile d i) (D' := iprop(IdxIs d i A idx n ∗ inP d A n)) ?_) $$ HF
  rw [hset]
  iintro ⟨HX, Ha⟩
  isplitl [HX]
  · unfold IdxIs
    iexists _
    isplitr
    swap
    · iexact HX
    ipureintro
    exact (View.read_write_univ _ _).trans hread
  · unfold inP; iexact Ha

/-- What the subcore owes, with waits of its own recorded beyond `W`. -/
def Owes (O : CellTallies nD τ sig (HIx 1)) (W : Waits sig (HIx 1)) : sProp 𝕄 :=
  iprop(∃ W', ⌜∀ p ∈ W', p ∈ W ∨ p.2 = none⌝ ∗ owes (tile d i) O W')

variable (O : CellTallies nD τ sig (HIx 1)) (W : Waits sig (HIx 1))

/-- A wait of the subcore for one of its own copies, whichever views the program names. -/
theorem wp_waitOwn {sp sp' : Space} {s s' : Shape} {e e' : EltTy} {srcw : Memref sig .scVector sp' s' e'} {dstw : Memref sig .scVector sp s e}
    {h1 : srcw.view.WordExact} {h2 : dstw.view.WordExact} {α : Type} (N : Nat) (hN : dstw.view.dmaCredit = N) (Dl : sProp 𝕄)
    {k : PUnit → Prog (TpuEff nD τ sig (Elt F) Λ₀ (vth i)) α} {Q : α → sProp 𝕄} :
    iprop(Transfers.Flight EC (tile d i) (.dma sm) (none : HIx 1) N Dl ∗ Owes d i O W ∗ Transfers.MayWaits (tile d i) (none : HIx 1) O)
      ⊢ iprop((iprop(Dl ∗ semVal (tile d i, .dma sm) 0 ∗ Owes d i O W) -∗ wpT d i (k ⟨⟩) Q)
        -∗ wpT d i (.op (.waitDma2 sm srcw dstw h1 h2) k) Q) := by
  unfold Owes
  iintro ⟨HF, ⟨%W', %hW', HO⟩, Hmw⟩ Hk
  iapply (Transfers.wp_waitLocalO EC 𝒱₀ (tile d i) none (srcw := srcw) (dstw := dstw) (none : HIx 1) hN (O := O) (W := W')) $$ [HF HO Hmw]
  · isplitl [HF]; · iexact HF
    isplitl [HO]; · iexact HO
    iapply (Transfers.MayWaits.elim (.dma sm)) $$ Hmw
  iintro ⟨HD, Hv, HO⟩
  iapply Hk
  isplitl [HD]; · iexact HD
  isplitl [Hv]; · iexact Hv
  iexists (insert (SemLoc.dma sm, (none : HIx 1)) W')
  isplitr
  · ipureintro
    intro p hp
    rcases Finset.mem_insert.mp hp with rfl | hp
    · exact .inr rfl
    · exact hW' p hp
  · iexact HO

end In

section Out

variable (buf : Memref sig .scVector .vmem S21x8x256 .f32) (sm : DmaSem sig) (f : Buf (Elt F) (oLoc d))

/-- A copy out is worth the same whichever chunk it goes to. -/
abbrev outCredit : Nat := sig.dmaCredit .scVector (Kind.scVector.table .hbm) (main_v0_scv : Ref sig .scVector).idx S21x8x256 .f32

/-- The one-hot expansion of the whole index array. -/
abbrev outAll : Buf (Elt F) (oLoc d) := hotAll one zero A

/-- Chunk `n` of the result on its way out of the staging buffer. -/
def OutFlight (n : Nat) : sProp 𝕄 :=
  Transfers.Flight EC (tile d i) (.dma sm) (none : HIx 1) outCredit
    iprop(outP d (outAll d A one zero) n ∗ ∃ X, buf.view.loc (tile d i) ↦{fullShare} X)

/-- What the copy out leaves in its chunk, the staging buffer holding the chunk's expansion. -/
theorem sent (off : Fin 3 → Nat) (inb : ∀ a, off a + S21x8x256.size a ≤ S21x2048x1024.size a) (n : Nat) (hn : n < 1024) (hoff : off = offOut n)
    {hst : ∀ a, (Rect.unit (s := S21x2048x1024) off S21x8x256.size inb).stride a = 1} (X : buf.view.ty.Contents (Elt F))
    (hX : ∀ x, buf.view.read (Elt F) X x = hot one zero (blockOf A n) x) (y : S21x2048x1024.Idx) (hy : y ∈ setOut n) :
    (oV.slice (Rect.unit (s := S21x2048x1024) off S21x8x256.size inb) hst).view.write (Elt F) f (buf.view.read (Elt F) X) Finset.univ y
      = outAll d A one zero y := by
  rw [← rectOut_set off inb n hoff] at hy
  obtain ⟨x, hx⟩ := (Rect.unit (s := S21x2048x1024) off S21x8x256.size inb).exists_idx_of_mem hy
  have hx' : (Rect.unit (s := S21x2048x1024) off S21x8x256.size inb).emb x = y := hx
  have hw : (oV.slice (Rect.unit (s := S21x2048x1024) off S21x8x256.size inb) hst).view.write (Elt F) f (buf.view.read (Elt F) X) Finset.univ
      ((Rect.unit (s := S21x2048x1024) off S21x8x256.size inb).emb x) = buf.view.read (Elt F) X x :=
    (View.write_emb_of_mem (v := (oV.slice (Rect.unit (s := S21x2048x1024) off S21x8x256.size inb) hst).view) f _ (Finset.mem_univ x)).trans (cast_eq _ _)
  have hb : blockOf A n = fun z => A ((Rect.unit (s := S2048x1024) (offIn n) S8x256.size (offIn_inb n hn)).emb z) :=
    funext fun z => congrArg A (emb_place (offIn n) (offIn_inb n hn) n hn rfl z).symm
  have hc := hot_chunk one zero A n off (offIn n) hoff rfl inb (offIn_inb n hn) x
  rw [hx'] at hw hc
  exact hw.trans ((hX x).trans ((congrFun (congrArg (hot one zero) hb) x).trans hc))

theorem wp_startOut (hbuf : buf.view.set = Finset.univ)
    (off : Fin 3 → Nat) (inb : ∀ a, off a + S21x8x256.size a ≤ S21x2048x1024.size a) (n : Nat) (hn : n < 1024) (hoff : off = offOut n)
    {hst : ∀ a, (Rect.unit (s := S21x2048x1024) off S21x8x256.size inb).stride a = 1}
    {h1 : buf.view.WordExact} {h2 : (oV.slice (Rect.unit (s := S21x2048x1024) off S21x8x256.size inb) hst).view.WordExact}
    {h3 : DmaTarget.Typed (nD := nD) (τ := τ) (p := vth i) .vmem (.dma sm) (.here (oV.slice (Rect.unit (s := S21x2048x1024) off S21x8x256.size inb) hst))}
    {α : Type} {k : PUnit → Prog (TpuEff nD τ sig (Elt F) Λ₀ (vth i)) α} {Q : α → sProp 𝕄} :
    iprop(outP d f n ∗ Holds d i buf (hot one zero (blockOf A n)) (fun _ => True) ∗ semVal (tile d i, .dma sm) 0)
      ⊢ iprop((OutFlight d i A one zero buf sm n -∗ wpT d i (k ⟨⟩) Q)
        -∗ wpT d i (.op (.enqueueDma buf (.here (oV.slice (Rect.unit (s := S21x2048x1024) off S21x8x256.size inb) hst)) (.dma sm) h1 h2 h3) k) Q) := by
  have hset : (oV.slice (Rect.unit (s := S21x2048x1024) off S21x8x256.size inb) hst).view.set = setOut n :=
    (View.set_slice_whole main_v0_scv _).trans (rectOut_set off inb n hoff)
  unfold Holds
  iintro ⟨Ho, ⟨%X, %hX, HX⟩, Hv⟩ Hk
  iapply (Transfers.wp_dmaLocal EC 𝒱₀ (tile d i) none (src := buf) (dst := oV.slice (Rect.unit (s := S21x2048x1024) off S21x8x256.size inb) hst)
    (via := .same) (sm := .dma sm) (fs := X) (fd := f) (q := fullShare) (Sd := setOut n) (none : HIx 1) outCredit rfl
    (sig.dmaCredit_pos _ _ _ _ _ (by decide)) (le_of_eq hset)) $$ [Ho HX Hv]
  · isplitl [HX]
    · rw [hbuf]; iexact HX
    isplitl [Ho]
    · unfold outP; iexact Ho
    iexact Hv
  iintro HF
  iapply Hk
  unfold OutFlight
  iapply (Transfers.Flight_mono EC (tile d i) (D' := iprop(outP d (outAll d A one zero) n ∗ ∃ X, buf.view.loc (tile d i) ↦{fullShare} X)) ?_) $$ HF
  rw [hbuf]
  iintro ⟨Ho, HX⟩
  isplitl [Ho]
  · unfold outP
    iapply (Entails.of_eq (pointsTo_congr (sent d A one zero buf f off inb n hn hoff X (fun x => hX x trivial)))) $$ Ho
  · iexists X; iexact HX

end Out

end Steps

end Cert.Proof

end
-- ==== Proof.Life.lean ====
/- The life of one of the two pairs of buffers a subcore works with. The chunks of a subcore alternate between the pairs:
   pair `b` takes the chunks `first i + (2 * s + b)`, `s` from 0 to 15, one after another. -/
module

public import proofs.«01_k».proof.Proof.Moves

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

/-- The chunk pair `b` takes at round `s`. -/
def num (i : grid0.Coords) (b s : Nat) : Nat := first i + (2 * s + b)

theorem num_lt (i : grid0.Coords) {b s : Nat} (hb : b < 2) (hs : s < 16) : num i b s < 1024 := by
  have := first_lt i
  unfold num
  omega

/-- The rounds. -/
abbrev rounds : Finset Nat := Finset.range 16

section Life

variable (d : Dev nD) (i : grid0.Coords) (A : Buf (Elt F) (aLoc d)) (one zero : F .f32) (b : Nat)

section In

variable (idx : Memref sig .scVector .vmem S8x256 .i32) (sm : DmaSem sig)

/-- Nothing on its way in. -/
def InIdle : sProp 𝕄 :=
  iprop((bigSep rounds fun s => inP d A (num i b s)) ∗ (∃ X, idx.view.loc (tile d i) ↦{fullShare} X) ∗ semVal (tile d i, .dma sm) 0)

/-- The chunk of round `t` on its way in. -/
def InWait (t : Nat) : sProp 𝕄 :=
  iprop((bigSep (rounds.erase t) fun s => inP d A (num i b s)) ∗ InFlight d i A idx sm (num i b t))

/-- At the start of round `t`, the last round being 15. -/
def InAt (t : Nat) : sProp 𝕄 := if t < 16 then InWait d i A b idx sm t else InIdle d i A b idx sm

theorem InAt_end : InAt d i A b idx sm 16 = InIdle d i A b idx sm := if_neg (Nat.lt_irrefl 16)

theorem start_in (hb : b < 2) (t : Nat) (ht : t < 16) (off : Fin 2 → Nat) (inb : ∀ a, off a + S8x256.size a ≤ S2048x1024.size a) (hoff : off = offIn (num i b t))
    {hst : ∀ a, (Rect.unit (s := S2048x1024) off S8x256.size inb).stride a = 1}
    {h1 : (aV.slice (Rect.unit (s := S2048x1024) off S8x256.size inb) hst).view.WordExact} {h2 : idx.view.WordExact}
    {h3 : DmaTarget.Typed (nD := nD) (τ := τ) (p := vth i) .hbm (.dma sm) (.here idx)} {α : Type}
    {k : PUnit → Prog (TpuEff nD τ sig (Elt F) Λ₀ (vth i)) α} {Q : α → sProp 𝕄} :
    InIdle d i A b idx sm ⊢ iprop((InAt d i A b idx sm t -∗ wpT d i (k ⟨⟩) Q)
        -∗ wpT d i (.op (.enqueueDma (aV.slice (Rect.unit (s := S2048x1024) off S8x256.size inb) hst) (.here idx) (.dma sm) h1 h2 h3) k) Q) := by
  unfold InIdle InAt
  rw [if_pos ht, SparseCore.bigSep_erase' (Finset.mem_range.mpr ht)]
  unfold InWait
  iintro ⟨⟨Ha, Hr⟩, HX, Hv⟩ Hk
  iapply (wp_startIn d i A idx sm off inb (num i b t) (num_lt i hb ht) hoff) $$ [Ha HX Hv]
  · isplitl [Ha]; · iexact Ha
    isplitl [HX] <;> iassumption
  iintro HF
  iapply Hk
  isplitl [Hr] <;> iassumption

/-- The next chunk is fetched if there is one. -/
theorem start_in_if (hb : b < 2) (t : Nat) (ht : t < 16) {c : BitVec 1} (hc : c = 1#1 ↔ t + 1 < 16)
    (off : Fin 2 → Nat) (inb : c = 1#1 → ∀ a, off a + S8x256.size a ≤ S2048x1024.size a) (hoff : t + 1 < 16 → off = offIn (num i b (t + 1)))
    {hst : ∀ h : c = 1#1, ∀ a, (Rect.unit (s := S2048x1024) off S8x256.size (inb h)).stride a = 1}
    {h1 : ∀ h : c = 1#1, (aV.slice (Rect.unit (s := S2048x1024) off S8x256.size (inb h)) (hst h)).view.WordExact} {h2 : c = 1#1 → idx.view.WordExact}
    {h3 : c = 1#1 → DmaTarget.Typed (nD := nD) (τ := τ) (p := vth i) .hbm (.dma sm) (.here idx)} {α : Type}
    {k : Prog (TpuEff nD τ sig (Elt F) Λ₀ (vth i)) α} {Q : α → sProp 𝕄} :
    InIdle d i A b idx sm ⊢ iprop((InAt d i A b idx sm (t + 1) -∗ wpT d i k Q)
        -∗ wpT d i (if h : c = 1#1 then (.op (.enqueueDma (aV.slice (Rect.unit (s := S2048x1024) off S8x256.size (inb h)) (hst h)) (.here idx) (.dma sm) (h1 h) (h2 h) (h3 h))
            fun _ => k) else k) Q) := by
  by_cases h : c = 1#1
  · rw [dif_pos h]
    exact start_in d i A b idx sm hb (t + 1) (hc.mp h) off (inb h) (hoff (hc.mp h)) (k := fun _ => k)
  · rw [dif_neg h]
    unfold InAt
    rw [if_neg (fun h' => h (hc.mpr h'))]
    iintro H Hk
    iapply Hk
    iexact H

variable (O : CellTallies nD τ sig (HIx 1)) (W : Waits sig (HIx 1))

/-- The pair's chunk has come in. -/
theorem wait_in (t : Nat) (ht : t < 16) {sp' : Space} {s' : Shape} {e' : EltTy} {srcw : Memref sig .scVector sp' s' e'}
    {h1 : srcw.view.WordExact} {h2 : idx.view.WordExact} {α : Type}
    {k : PUnit → Prog (TpuEff nD τ sig (Elt F) Λ₀ (vth i)) α} {Q : α → sProp 𝕄} :
    iprop(InAt d i A b idx sm t ∗ Owes d i O W ∗ Transfers.MayWaits (tile d i) (none : HIx 1) O)
      ⊢ iprop((iprop(IdxIs d i A idx (num i b t) ∗ (bigSep rounds fun s => inP d A (num i b s)) ∗ semVal (tile d i, .dma sm) 0 ∗ Owes d i O W) -∗ wpT d i (k ⟨⟩) Q)
        -∗ wpT d i (.op (.waitDma2 sm srcw idx h1 h2) k) Q) := by
  unfold InAt
  rw [if_pos ht, SparseCore.bigSep_erase' (s := rounds) (Finset.mem_range.mpr ht)]
  unfold InWait InFlight
  iintro ⟨⟨Hr, HF⟩, HO, Hm⟩ Hk
  iapply (wp_waitOwn d i sm O W _ rfl _) $$ [HF HO Hm]
  · isplitl [HF]; · iexact HF
    isplitl [HO] <;> iassumption
  iintro ⟨⟨HX, Ha⟩, Hv, HO⟩
  iapply Hk
  isplitl [HX]; · iexact HX
  isplitl [Ha Hr]
  · isplitl [Ha] <;> iassumption
  isplitl [Hv] <;> iassumption

end In

section Rows

variable (idx : Memref sig .scVector .vmem S8x256 .i32) (buf : Memref sig .scVector .vmem S21x8x256 .f32)

/-- Before the first row. -/
theorem rows_enter (n : Nat) :
    iprop(IdxIs d i A idx n ∗ ∃ Y, buf.view.loc (tile d i) ↦{fullShare} Y)
      ⊢ iprop(∃ X, ⌜idx.view.read (Elt F) X = blockOf A n⌝ ∗ Filled d i idx buf one zero X 0 0) := by
  unfold IdxIs Filled Holds
  iintro ⟨⟨%X, %hX, HX⟩, ⟨%Y, HY⟩⟩
  iexists X
  isplitr
  · ipureintro; exact hX
  isplitl [HX]; · iexact HX
  iexists Y
  isplitr
  · ipureintro
    intro y hy
    unfold Done at hy
    omega
  · iexact HY

/-- After the last row. -/
theorem rows_leave (n : Nat) (X : Buf (Elt F) (idx.view.loc (tile d i))) (hX : idx.view.read (Elt F) X = blockOf A n) :
    Filled d i idx buf one zero X 8 0
      ⊢ iprop((∃ X, idx.view.loc (tile d i) ↦{fullShare} X) ∗ Holds d i buf (hot one zero (blockOf A n)) (fun _ => True)) := by
  unfold Filled Holds
  rw [hX]
  iintro ⟨HX, ⟨%Y, %hY, HY⟩⟩
  isplitl [HX]
  · iexists X; iexact HX
  iexists Y
  isplitr
  · ipureintro
    intro y _
    exact hY y (.inl (y 1).isLt)
  · iexact HY

/-- One row, by its number. -/
theorem row (X : Buf (Elt F) (idx.view.loc (tile d i))) {r n : Nat} (hr : r < 8) (hn : n = r + 1) (ok : rowLoop.OK) {β : Type}
    {body : Fin rowLoop.trips → PUnit → Prog (TpuEff nD τ sig (Elt F) Λ₀ (vth i)) PUnit}
    (hb : body = fun t _ => trip i idx buf (broadcast S16 one) (broadcast S16 zero) ⟨r, hr⟩ t)
    {kk : PUnit → Prog (TpuEff nD τ sig (Elt F) Λ₀ (vth i)) β} {Q : β → sProp 𝕄} :
    Filled d i idx buf one zero X r 0
      ⊢ iprop((Filled d i idx buf one zero X n 0 -∗ wpT d i (kk ⟨⟩) Q) -∗ wpT d i (Scf.Loop.for rowLoop ok ⟨⟩ body >>= kk) Q) := by
  subst hn
  exact wp_row d i idx buf one zero X ⟨r, hr⟩ ok hb

end Rows

section Out

variable (buf : Memref sig .scVector .vmem S21x8x256 .f32) (sm : DmaSem sig) (f : Buf (Elt F) (oLoc d))

/-- The pair's chunks of the result before round `t`'s is sent: those of the earlier rounds are written. -/
def outMix (t s : Nat) : sProp 𝕄 := outP d (if s < t then outAll d A one zero else f) (num i b s)

/-- Nothing on its way out. -/
def OutIdle (t : Nat) : sProp 𝕄 :=
  iprop((bigSep rounds (outMix d i A one zero b f t)) ∗ (∃ X, buf.view.loc (tile d i) ↦{fullShare} X) ∗ semVal (tile d i, .dma sm) 0)

/-- The chunk of round `t` on its way out. -/
def OutWait (t : Nat) : sProp 𝕄 :=
  iprop((bigSep (rounds.erase t) (outMix d i A one zero b f t)) ∗ OutFlight d i A one zero buf sm (num i b t))

/-- At the start of round `t`. -/
def OutAt : Nat → sProp 𝕄
  | 0 => OutIdle d i A one zero b buf sm f 0
  | t + 1 => OutWait d i A one zero b buf sm f t

theorem start_out (hbuf : buf.view.set = Finset.univ) (hb : b < 2) (t : Nat) (ht : t < 16)
    (off : Fin 3 → Nat) (inb : ∀ a, off a + S21x8x256.size a ≤ S21x2048x1024.size a) (hoff : off = offOut (num i b t))
    {hst : ∀ a, (Rect.unit (s := S21x2048x1024) off S21x8x256.size inb).stride a = 1}
    {h1 : buf.view.WordExact} {h2 : (oV.slice (Rect.unit (s := S21x2048x1024) off S21x8x256.size inb) hst).view.WordExact}
    {h3 : DmaTarget.Typed (nD := nD) (τ := τ) (p := vth i) .vmem (.dma sm) (.here (oV.slice (Rect.unit (s := S21x2048x1024) off S21x8x256.size inb) hst))}
    {α : Type} {k : PUnit → Prog (TpuEff nD τ sig (Elt F) Λ₀ (vth i)) α} {Q : α → sProp 𝕄} :
    iprop((bigSep rounds (outMix d i A one zero b f t)) ∗ Holds d i buf (hot one zero (blockOf A (num i b t))) (fun _ => True) ∗ semVal (tile d i, .dma sm) 0)
      ⊢ iprop((OutAt d i A one zero b buf sm f (t + 1) -∗ wpT d i (k ⟨⟩) Q)
        -∗ wpT d i (.op (.enqueueDma buf (.here (oV.slice (Rect.unit (s := S21x2048x1024) off S21x8x256.size inb) hst)) (.dma sm) h1 h2 h3) k) Q) := by
  rw [SparseCore.bigSep_erase' (s := rounds) (Finset.mem_range.mpr ht),
    show outMix d i A one zero b f t t = outP d f (num i b t) by unfold outMix; rw [if_neg (Nat.lt_irrefl t)]]
  unfold OutAt OutWait
  iintro ⟨⟨Ho, Hr⟩, HH, Hv⟩ Hk
  iapply (wp_startOut d i A one zero buf sm f hbuf off inb (num i b t) (num_lt i hb ht) hoff) $$ [Ho HH Hv]
  · isplitl [Ho]; · iexact Ho
    isplitl [HH] <;> iassumption
  iintro HF
  iapply Hk
  isplitl [Hr] <;> iassumption

variable (O : CellTallies nD τ sig (HIx 1)) (W : Waits sig (HIx 1))

/-- Once round `t`'s chunk is out, so are all up to it. -/
theorem outMix_next (t : Nat) (ht : t < 16) :
    iprop((bigSep (rounds.erase t) (outMix d i A one zero b f t)) ∗ outP d (outAll d A one zero) (num i b t))
      ⊢ bigSep rounds (outMix d i A one zero b f (t + 1)) := by
  rw [SparseCore.bigSep_erase' (s := rounds) (Finset.mem_range.mpr ht),
    show outMix d i A one zero b f (t + 1) t = outP d (outAll d A one zero) (num i b t) by
      unfold outMix; rw [if_pos (Nat.lt_succ_self t)],
    bigSep_congr (Ψ := outMix d i A one zero b f (t + 1)) (fun s hs => by
      unfold outMix
      have hne := Finset.ne_of_mem_erase hs
      by_cases h : s < t
      · rw [if_pos h, if_pos (by omega)]
      · rw [if_neg h, if_neg (by omega)])]
  iintro ⟨Hr, Ho⟩
  isplitl [Ho] <;> iassumption

theorem wait_out (t : Nat) (ht : t < 16) {sp' : Space} {s' : Shape} {e' : EltTy} {srcw : Memref sig .scVector sp' s' e'}
    {dstw : Memref sig .scVector .hbm S21x8x256 .f32} (hN : dstw.view.dmaCredit = outCredit)
    {h1 : srcw.view.WordExact} {h2 : dstw.view.WordExact} {α : Type}
    {k : PUnit → Prog (TpuEff nD τ sig (Elt F) Λ₀ (vth i)) α} {Q : α → sProp 𝕄} :
    iprop(OutAt d i A one zero b buf sm f (t + 1) ∗ Owes d i O W ∗ Transfers.MayWaits (tile d i) (none : HIx 1) O)
      ⊢ iprop((iprop(OutIdle d i A one zero b buf sm f (t + 1) ∗ Owes d i O W) -∗ wpT d i (k ⟨⟩) Q)
        -∗ wpT d i (.op (.waitDma2 sm srcw dstw h1 h2) k) Q) := by
  unfold OutAt OutWait OutFlight OutIdle
  iintro ⟨⟨Hr, HF⟩, HO, Hm⟩ Hk
  iapply (wp_waitOwn d i sm O W _ hN _) $$ [HF HO Hm]
  · isplitl [HF]; · iexact HF
    isplitl [HO] <;> iassumption
  iintro ⟨⟨Ho, HX⟩, Hv, HO⟩
  iapply Hk
  isplitr [HO]
  · isplitl [Hr Ho]
    · iapply (outMix_next d i A one zero b f t ht)
      isplitl [Hr] <;> iassumption
    isplitl [HX] <;> iassumption
  · iexact HO

/-- The chunk of the round before is waited for if there was one. -/
theorem wait_out_if (t : Nat) (ht : t < 16) {c : BitVec 1} (hc : c = 1#1 ↔ 0 < t)
    {sp' : Space} {s' : Shape} {e' : EltTy} {srcw : c = 1#1 → Memref sig .scVector sp' s' e'}
    {dstw : c = 1#1 → Memref sig .scVector .hbm S21x8x256 .f32} (hN : ∀ h, (dstw h).view.dmaCredit = outCredit)
    {h1 : ∀ h, (srcw h).view.WordExact} {h2 : ∀ h, (dstw h).view.WordExact} {α : Type}
    {k : Prog (TpuEff nD τ sig (Elt F) Λ₀ (vth i)) α} {Q : α → sProp 𝕄} :
    iprop(OutAt d i A one zero b buf sm f t ∗ Owes d i O W ∗ Transfers.MayWaits (tile d i) (none : HIx 1) O)
      ⊢ iprop((iprop(OutIdle d i A one zero b buf sm f t ∗ Owes d i O W) -∗ wpT d i k Q)
        -∗ wpT d i (if h : c = 1#1 then (.op (.waitDma2 sm (srcw h) (dstw h) (h1 h) (h2 h)) fun _ => k) else k) Q) := by
  cases t with
  | zero =>
    rw [dif_neg (fun h => Nat.lt_irrefl 0 (hc.mp h))]
    unfold OutAt
    iintro ⟨H, HO, _⟩ Hk
    iapply Hk
    isplitl [H] <;> iassumption
  | succ t =>
    have h : c = 1#1 := hc.mpr (Nat.succ_pos t)
    rw [dif_pos h]
    exact wait_out d i A one zero b buf sm f O W t (by omega) (hN h) (k := fun _ => k)

end Out

end Life

end Cert.Proof

end
-- ==== Proof.Tile.lean ====
/- One subcore's run of the kernel: both pairs of buffers through their sixteen rounds. -/
module

public import proofs.«01_k».proof.Proof.Life

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

/-! ## The printed trips, each the trip of its row -/

section Trips

variable (i : grid0.Coords) (arg2 : Memref sig .scVector .hbm S2048x1024 .i32) (harg2 : arg2.IsWhole) (arg3 : Memref sig .scVector .hbm S21x2048x1024 .f32) (harg3 : arg3.IsWhole)
  (arg4 : Memref sig .scVector .vmem S8x256 .i32) (harg4 : arg4.IsWhole) (arg5 : Memref sig .scVector .vmem S8x256 .i32) (harg5 : arg5.IsWhole)
  (arg6 : Memref sig .scVector .vmem S21x8x256 .f32) (harg6 : arg6.IsWhole) (arg7 : Memref sig .scVector .vmem S21x8x256 .f32) (harg7 : arg7.IsWhole)
  (arg8 arg9 arg10 arg11 : DmaSems sig S_) (v1 : BitVec 32) (v2 v3 : FVec F S16 .f32)

set_option maxRecDepth 100000

theorem t2_eq (k0_t1 : Fin k0_t1_loop.trips) (v140 v173 : BitVec 32) :
    k0_t2_body (F := F) i arg2 harg2 arg3 harg3 arg4 harg4 arg5 harg5 arg6 harg6 arg7 harg7 arg8 arg9 arg10 arg11 v1 v2 v3 k0_t1 v140 v173
      = fun t _ => trip i arg4 arg6 v2 v3 0 t := rfl
theorem t3_eq (k0_t1 : Fin k0_t1_loop.trips) (v140 v173 : BitVec 32) :
    k0_t3_body (F := F) i arg2 harg2 arg3 harg3 arg4 harg4 arg5 harg5 arg6 harg6 arg7 harg7 arg8 arg9 arg10 arg11 v1 v2 v3 k0_t1 v140 v173
      = fun t _ => trip i arg4 arg6 v2 v3 1 t := rfl
theorem t4_eq (k0_t1 : Fin k0_t1_loop.trips) (v140 v173 : BitVec 32) :
    k0_t4_body (F := F) i arg2 harg2 arg3 harg3 arg4 harg4 arg5 harg5 arg6 harg6 arg7 harg7 arg8 arg9 arg10 arg11 v1 v2 v3 k0_t1 v140 v173
      = fun t _ => trip i arg4 arg6 v2 v3 2 t := rfl
theorem t5_eq (k0_t1 : Fin k0_t1_loop.trips) (v140 v173 : BitVec 32) :
    k0_t5_body (F := F) i arg2 harg2 arg3 harg3 arg4 harg4 arg5 harg5 arg6 harg6 arg7 harg7 arg8 arg9 arg10 arg11 v1 v2 v3 k0_t1 v140 v173
      = fun t _ => trip i arg4 arg6 v2 v3 3 t := rfl
theorem t6_eq (k0_t1 : Fin k0_t1_loop.trips) (v140 v173 : BitVec 32) :
    k0_t6_body (F := F) i arg2 harg2 arg3 harg3 arg4 harg4 arg5 harg5 arg6 harg6 arg7 harg7 arg8 arg9 arg10 arg11 v1 v2 v3 k0_t1 v140 v173
      = fun t _ => trip i arg4 arg6 v2 v3 4 t := rfl
theorem t7_eq (k0_t1 : Fin k0_t1_loop.trips) (v140 v173 : BitVec 32) :
    k0_t7_body (F := F) i arg2 harg2 arg3 harg3 arg4 harg4 arg5 harg5 arg6 harg6 arg7 harg7 arg8 arg9 arg10 arg11 v1 v2 v3 k0_t1 v140 v173
      = fun t _ => trip i arg4 arg6 v2 v3 5 t := rfl
theorem t8_eq (k0_t1 : Fin k0_t1_loop.trips) (v140 v173 : BitVec 32) :
    k0_t8_body (F := F) i arg2 harg2 arg3 harg3 arg4 harg4 arg5 harg5 arg6 harg6 arg7 harg7 arg8 arg9 arg10 arg11 v1 v2 v3 k0_t1 v140 v173
      = fun t _ => trip i arg4 arg6 v2 v3 6 t := rfl
theorem t9_eq (k0_t1 : Fin k0_t1_loop.trips) (v140 v173 : BitVec 32) :
    k0_t9_body (F := F) i arg2 harg2 arg3 harg3 arg4 harg4 arg5 harg5 arg6 harg6 arg7 harg7 arg8 arg9 arg10 arg11 v1 v2 v3 k0_t1 v140 v173
      = fun t _ => trip i arg4 arg6 v2 v3 7 t := rfl
theorem t10_eq (k0_t1 : Fin k0_t1_loop.trips) (v222 : BitVec 32) :
    k0_t10_body (F := F) i arg2 harg2 arg3 harg3 arg4 harg4 arg5 harg5 arg6 harg6 arg7 harg7 arg8 arg9 arg10 arg11 v1 v2 v3 k0_t1 v222
      = fun t _ => trip i arg5 arg7 v2 v3 0 t := rfl
theorem t11_eq (v222 : BitVec 32) :
    k0_t11_body (F := F) i arg2 harg2 arg3 harg3 arg4 harg4 arg5 harg5 arg6 harg6 arg7 harg7 arg8 arg9 arg10 arg11 v1 v2 v3 v222 0#32
      = fun t _ => trip i arg5 arg7 v2 v3 1 t := rfl
theorem t12_eq (v222 : BitVec 32) :
    k0_t12_body (F := F) i arg2 harg2 arg3 harg3 arg4 harg4 arg5 harg5 arg6 harg6 arg7 harg7 arg8 arg9 arg10 arg11 v1 v2 v3 v222 0#32
      = fun t _ => trip i arg5 arg7 v2 v3 2 t := rfl
theorem t13_eq (v222 : BitVec 32) :
    k0_t13_body (F := F) i arg2 harg2 arg3 harg3 arg4 harg4 arg5 harg5 arg6 harg6 arg7 harg7 arg8 arg9 arg10 arg11 v1 v2 v3 v222 0#32
      = fun t _ => trip i arg5 arg7 v2 v3 3 t := rfl
theorem t14_eq (v222 : BitVec 32) :
    k0_t14_body (F := F) i arg2 harg2 arg3 harg3 arg4 harg4 arg5 harg5 arg6 harg6 arg7 harg7 arg8 arg9 arg10 arg11 v1 v2 v3 v222 0#32
      = fun t _ => trip i arg5 arg7 v2 v3 4 t := rfl
theorem t15_eq (v222 : BitVec 32) :
    k0_t15_body (F := F) i arg2 harg2 arg3 harg3 arg4 harg4 arg5 harg5 arg6 harg6 arg7 harg7 arg8 arg9 arg10 arg11 v1 v2 v3 v222 0#32
      = fun t _ => trip i arg5 arg7 v2 v3 5 t := rfl
theorem t16_eq (v222 : BitVec 32) :
    k0_t16_body (F := F) i arg2 harg2 arg3 harg3 arg4 harg4 arg5 harg5 arg6 harg6 arg7 harg7 arg8 arg9 arg10 arg11 v1 v2 v3 v222 0#32
      = fun t _ => trip i arg5 arg7 v2 v3 6 t := rfl
theorem t17_eq (v222 : BitVec 32) :
    k0_t17_body (F := F) i arg2 harg2 arg3 harg3 arg4 harg4 arg5 harg5 arg6 harg6 arg7 harg7 arg8 arg9 arg10 arg11 v1 v2 v3 v222 0#32
      = fun t _ => trip i arg5 arg7 v2 v3 7 t := rfl

end Trips

section Ret

theorem wpT_ret (d : Dev nD) (i : grid0.Coords) {α : Type} (a : α) {Q : α → sProp 𝕄} : Q a ⊢ wpT d i (.ret a) Q := by
  unfold wpT
  rw [wp_ret]
  iintro H
  imodintro
  iexact H

end Ret

section Round

variable (d : Dev nD) (i : grid0.Coords) (A : Buf (Elt F) (aLoc d)) (one zero : F .f32) (f : Buf (Elt F) (oLoc d))
  (harg2 : (aV : Memref sig .scVector .hbm S2048x1024 .i32).IsWhole) (harg3 : (oV : Memref sig .scVector .hbm S21x2048x1024 .f32).IsWhole)
  (arg4 : Memref sig .scVector .vmem S8x256 .i32) (harg4 : arg4.IsWhole) (arg5 : Memref sig .scVector .vmem S8x256 .i32) (harg5 : arg5.IsWhole)
  (arg6 : Memref sig .scVector .vmem S21x8x256 .f32) (harg6 : arg6.IsWhole) (arg7 : Memref sig .scVector .vmem S21x8x256 .f32) (harg7 : arg7.IsWhole)
  (arg8 arg9 arg10 arg11 : DmaSems sig S_) (v1 : BitVec 32)
  (O : CellTallies nD τ sig (HIx 1)) (W : Waits sig (HIx 1))

/-- Both pairs at the start of round `t`. -/
def AtRound (t : Nat) : sProp 𝕄 :=
  iprop(InAt d i A 0 arg4 arg10.sem t ∗ OutAt d i A one zero 0 arg6 arg8.sem f t ∗ InAt d i A 1 arg5 arg11.sem t ∗ OutAt d i A one zero 1 arg7 arg9.sem f t
    ∗ Owes d i O W)

set_option maxRecDepth 100000 in
set_option maxHeartbeats 2000000 in
theorem wp_round (h6 : arg6.view.set = Finset.univ) (h7 : arg7.view.set = Finset.univ) (t : Fin k0_t1_loop.trips) :
    iprop(AtRound d i A one zero f arg4 arg5 arg6 arg7 arg8 arg9 arg10 arg11 O W t.val ∗ Transfers.MayWaits (tile d i) (none : HIx 1) O)
      ⊢ wpT d i (k0_t1_body (F := F) i aV harg2 oV harg3 arg4 harg4 arg5 harg5 arg6 harg6 arg7 harg7 arg8 arg9 arg10 arg11 v1 (broadcast S16 one) (broadcast S16 zero) t ⟨⟩)
        (fun _ => iprop(AtRound d i A one zero f arg4 arg5 arg6 arg7 arg8 arg9 arg10 arg11 O W (t.val + 1) ∗ Transfers.MayWaits (tile d i) (none : HIx 1) O)) := by
  have ht : t.val < 16 := lt_of_lt_of_eq t.isLt trips_eq
  unfold k0_t1_body
  simp only [k0_part65_eq_skeleton, k0_part66_eq_skeleton, k0_part67_eq_skeleton, k0_part68_eq_skeleton, k0_part69_eq_skeleton, wp_bind]
  unfold AtRound k0_part65_skel
  simp only [Prog.bind_lift]
  iintro ⟨⟨HI0, HO0, HI1, HO1, HW⟩, #Hm⟩
  iapply (wait_out_if d i A one zero 0 arg6 arg8.sem f O W t.val ht (cond1_iff t) (fun _ => rfl)) $$ [HO0 HW]
  · isplitl [HO0]; · iexact HO0
    isplitl [HW]; · iexact HW
    iexact Hm
  iintro ⟨HO0, HW⟩
  iapply wpT_ret
  dsimp only
  unfold k0_part66_skel
  simp only [Prog.bind_lift, Prog.pure_eq_ret]
  iapply (wait_in d i A 0 arg4 arg10.sem O W t.val ht) $$ [HI0 HW]
  · isplitl [HI0]; · iexact HI0
    isplitl [HW]; · iexact HW
    iexact Hm
  iintro ⟨HX0, Ha0, Hv0, HW⟩
  unfold OutIdle
  icases HO0 with ⟨Ho0, HB0, Hs0⟩
  ihave ⟨%X0, %hX0, HF0⟩ := (rows_enter d i A one zero arg4 arg6 (num i 0 t.val)) $$ [HX0 HB0]
  · isplitl [HX0] <;> iassumption
  iapply (row d i one zero arg4 arg6 X0 (r := 0) (n := 1) (by decide) rfl k0_t2_ok (t2_eq (F := F) i _ _ _ _ _ _ _ _ _ _ _ _ _ _ _ _ _ _ _ _ _ _)) $$ HF0
  iintro HF0
  iapply (row d i one zero arg4 arg6 X0 (r := 1) (n := 2) (by decide) rfl k0_t3_ok (t3_eq (F := F) i _ _ _ _ _ _ _ _ _ _ _ _ _ _ _ _ _ _ _ _ _ _)) $$ HF0
  iintro HF0
  iapply (row d i one zero arg4 arg6 X0 (r := 2) (n := 3) (by decide) rfl k0_t4_ok (t4_eq (F := F) i _ _ _ _ _ _ _ _ _ _ _ _ _ _ _ _ _ _ _ _ _ _)) $$ HF0
  iintro HF0
  iapply (row d i one zero arg4 arg6 X0 (r := 3) (n := 4) (by decide) rfl k0_t5_ok (t5_eq (F := F) i _ _ _ _ _ _ _ _ _ _ _ _ _ _ _ _ _ _ _ _ _ _)) $$ HF0
  iintro HF0
  iapply (row d i one zero arg4 arg6 X0 (r := 4) (n := 5) (by decide) rfl k0_t6_ok (t6_eq (F := F) i _ _ _ _ _ _ _ _ _ _ _ _ _ _ _ _ _ _ _ _ _ _)) $$ HF0
  iintro HF0
  iapply (row d i one zero arg4 arg6 X0 (r := 5) (n := 6) (by decide) rfl k0_t7_ok (t7_eq (F := F) i _ _ _ _ _ _ _ _ _ _ _ _ _ _ _ _ _ _ _ _ _ _)) $$ HF0
  iintro HF0
  iapply (row d i one zero arg4 arg6 X0 (r := 6) (n := 7) (by decide) rfl k0_t8_ok (t8_eq (F := F) i _ _ _ _ _ _ _ _ _ _ _ _ _ _ _ _ _ _ _ _ _ _)) $$ HF0
  iintro HF0
  iapply (row d i one zero arg4 arg6 X0 (r := 7) (n := 8) (by decide) rfl k0_t9_ok (t9_eq (F := F) i _ _ _ _ _ _ _ _ _ _ _ _ _ _ _ _ _ _ _ _ _ _)) $$ HF0
  iintro HF0
  ihave ⟨HX0, HH0⟩ := (rows_leave d i A one zero arg4 arg6 (num i 0 t.val) X0 hX0) $$ HF0
  iapply wpT_ret
  dsimp only
  unfold k0_part67_skel
  simp only [Prog.bind_lift, Prog.pure_eq_ret]
  iapply (start_out d i A one zero 0 arg6 arg8.sem f h6 (by decide) t.val ht _ _ (off180_eq i t 0)) $$ [Ho0 HH0 Hs0]
  · isplitl [Ho0]; · iexact Ho0
    isplitl [HH0] <;> iassumption
  iintro HO0
  iapply (start_in_if d i A 0 arg4 arg10.sem (by decide) t.val ht (cond2_iff t) _ _ (off181_eq i t)) $$ [Ha0 HX0 Hv0]
  · unfold InIdle
    isplitl [Ha0]; · iexact Ha0
    isplitl [HX0] <;> iassumption
  iintro HI0
  iapply wpT_ret
  unfold k0_part68_skel
  simp only [Prog.bind_lift, Prog.pure_eq_ret]
  iapply (wait_out_if d i A one zero 1 arg7 arg9.sem f O W t.val ht (cond3_iff t) (fun _ => rfl)) $$ [HO1 HW]
  · isplitl [HO1]; · iexact HO1
    isplitl [HW]; · iexact HW
    iexact Hm
  iintro ⟨HO1, HW⟩
  iapply (wait_in d i A 1 arg5 arg11.sem O W t.val ht) $$ [HI1 HW]
  · isplitl [HI1]; · iexact HI1
    isplitl [HW]; · iexact HW
    iexact Hm
  iintro ⟨HX1, Ha1, Hv1, HW⟩
  unfold OutIdle
  icases HO1 with ⟨Ho1, HB1, Hs1⟩
  ihave ⟨%X1, %hX1, HF1⟩ := (rows_enter d i A one zero arg5 arg7 (num i 1 t.val)) $$ [HX1 HB1]
  · isplitl [HX1] <;> iassumption
  iapply (row d i one zero arg5 arg7 X1 (r := 0) (n := 1) (by decide) rfl k0_t10_ok (t10_eq (F := F) i _ _ _ _ _ _ _ _ _ _ _ _ _ _ _ _ _ _ _ _ _)) $$ HF1
  iintro HF1
  iapply wpT_ret
  unfold k0_part69_skel
  simp only [Prog.bind_lift, Prog.pure_eq_ret]
  iapply (row d i one zero arg5 arg7 X1 (r := 1) (n := 2) (by decide) rfl k0_t11_ok (t11_eq (F := F) i _ _ _ _ _ _ _ _ _ _ _ _ _ _ _ _ _ _ _ _)) $$ HF1
  iintro HF1
  iapply (row d i one zero arg5 arg7 X1 (r := 2) (n := 3) (by decide) rfl k0_t12_ok (t12_eq (F := F) i _ _ _ _ _ _ _ _ _ _ _ _ _ _ _ _ _ _ _ _)) $$ HF1
  iintro HF1
  iapply (row d i one zero arg5 arg7 X1 (r := 3) (n := 4) (by decide) rfl k0_t13_ok (t13_eq (F := F) i _ _ _ _ _ _ _ _ _ _ _ _ _ _ _ _ _ _ _ _)) $$ HF1
  iintro HF1
  iapply (row d i one zero arg5 arg7 X1 (r := 4) (n := 5) (by decide) rfl k0_t14_ok (t14_eq (F := F) i _ _ _ _ _ _ _ _ _ _ _ _ _ _ _ _ _ _ _ _)) $$ HF1
  iintro HF1
  iapply (row d i one zero arg5 arg7 X1 (r := 5) (n := 6) (by decide) rfl k0_t15_ok (t15_eq (F := F) i _ _ _ _ _ _ _ _ _ _ _ _ _ _ _ _ _ _ _ _)) $$ HF1
  iintro HF1
  iapply (row d i one zero arg5 arg7 X1 (r := 6) (n := 7) (by decide) rfl k0_t16_ok (t16_eq (F := F) i _ _ _ _ _ _ _ _ _ _ _ _ _ _ _ _ _ _ _ _)) $$ HF1
  iintro HF1
  iapply (row d i one zero arg5 arg7 X1 (r := 7) (n := 8) (by decide) rfl k0_t17_ok (t17_eq (F := F) i _ _ _ _ _ _ _ _ _ _ _ _ _ _ _ _ _ _ _ _)) $$ HF1
  iintro HF1
  ihave ⟨HX1, HH1⟩ := (rows_leave d i A one zero arg5 arg7 (num i 1 t.val) X1 hX1) $$ HF1
  iapply wpT_ret
  iapply (start_out d i A one zero 1 arg7 arg9.sem f h7 (by decide) t.val ht _ _ (off180_eq i t 1)) $$ [Ho1 HH1 Hs1]
  · isplitl [Ho1]; · iexact Ho1
    isplitl [HH1] <;> iassumption
  iintro HO1
  iapply wpT_ret
  iapply (start_in_if d i A 1 arg5 arg11.sem (by decide) t.val ht (cond4_iff t) _ _ (off359_eq i t)) $$ [Ha1 HX1 Hv1]
  · unfold InIdle
    isplitl [Ha1]; · iexact Ha1
    isplitl [HX1] <;> iassumption
  iintro HI1
  iapply wpT_ret
  isplitl
  · isplitl [HI0]; · iexact HI0
    isplitl [HO0]; · iexact HO0
    isplitl [HI1]; · iexact HI1
    isplitl [HO1] <;> iassumption
  · iexact Hm

/-- All the rounds. -/
theorem wp_rounds (h6 : arg6.view.set = Finset.univ) (h7 : arg7.view.set = Finset.univ) {α : Type}
    {kk : PUnit → Prog (TpuEff nD τ sig (Elt F) Λ₀ (vth i)) α} {Q : α → sProp 𝕄} :
    iprop(AtRound d i A one zero f arg4 arg5 arg6 arg7 arg8 arg9 arg10 arg11 O W 0 ∗ Transfers.MayWaits (tile d i) (none : HIx 1) O)
      ⊢ iprop((AtRound d i A one zero f arg4 arg5 arg6 arg7 arg8 arg9 arg10 arg11 O W 16 -∗ wpT d i (kk ⟨⟩) Q)
        -∗ wpT d i (Scf.Loop.for k0_t1_loop k0_t1_ok ⟨⟩
          (k0_t1_body (F := F) i aV harg2 oV harg3 arg4 harg4 arg5 harg5 arg6 harg6 arg7 harg7 arg8 arg9 arg10 arg11 v1 (broadcast S16 one) (broadcast S16 zero)) >>= kk) Q) := by
  refine (Scf.wp_for_bind frame _ Set.univ k0_t1_loop.lb k0_t1_loop.ub k0_t1_loop.st k0_t1_ok ⟨⟩ _
    (fun n _ => iprop(AtRound d i A one zero f arg4 arg5 arg6 arg7 arg8 arg9 arg10 arg11 O W n ∗ Transfers.MayWaits (tile d i) (none : HIx 1) O))
    (fun t _ => wp_round d i A one zero f harg2 harg3 arg4 harg4 arg5 harg5 arg6 harg6 arg7 harg7 arg8 arg9 arg10 arg11 v1 O W h6 h7 t)
    (kk := kk) (Q := Q)).trans ?_
  have hR : AtRound d i A one zero f arg4 arg5 arg6 arg7 arg8 arg9 arg10 arg11 O W (Scf.trips k0_t1_loop.lb k0_t1_loop.ub k0_t1_loop.st)
      = AtRound d i A one zero f arg4 arg5 arg6 arg7 arg8 arg9 arg10 arg11 O W 16 :=
    congrArg (AtRound d i A one zero f arg4 arg5 arg6 arg7 arg8 arg9 arg10 arg11 O W) trips_eq
  iintro H HK
  iapply H
  iintro %acc ⟨HR, _⟩
  iapply HK
  iapply (Entails.of_eq hR) $$ HR

/-- The float the program writes where the letter is the index; the float elsewhere. -/
abbrev oneF : F .f32 := Scalar.ofBits .f32 0x3F800000#32
abbrev zeroF : F .f32 := Scalar.ofBits .f32 0#32

set_option maxRecDepth 100000 in
/-- A subcore's whole run. -/
theorem wp_kernel (h6 : arg6.view.set = Finset.univ) (h7 : arg7.view.set = Finset.univ) :
    iprop((InIdle d i A 0 arg4 arg10.sem ∗ OutIdle d i A oneF zeroF 0 arg6 arg8.sem f 0 ∗ InIdle d i A 1 arg5 arg11.sem ∗ OutIdle d i A oneF zeroF 1 arg7 arg9.sem f 0
        ∗ Owes d i O W) ∗ Transfers.MayWaits (tile d i) (none : HIx 1) O)
      ⊢ wpT d i (cc0__sc_onehot (F := F) i aV harg2 oV harg3 arg4 harg4 arg5 harg5 arg6 harg6 arg7 harg7 arg8 arg9 arg10 arg11)
        (fun _ => iprop(InIdle d i A 0 arg4 arg10.sem ∗ OutIdle d i A oneF zeroF 0 arg6 arg8.sem f 16 ∗ InIdle d i A 1 arg5 arg11.sem
          ∗ OutIdle d i A oneF zeroF 1 arg7 arg9.sem f 16 ∗ Owes d i O W)) := by
  rw [cc0__sc_onehot_eq_skeleton]
  unfold cc0__sc_onehot_skel
  simp only [k0_part70_eq_skeleton, k0_part71_eq_skeleton, k0_part72_eq_skeleton, wp_bind]
  unfold k0_part70_skel
  rw [show (k0_pay417 (F := F)) = broadcast S16 oneF from rfl, show (k0_pay418 (F := F)) = broadcast S16 zeroF from rfl]
  simp only [Prog.bind_lift, Prog.pure_eq_ret]
  iintro ⟨⟨HI0, HO0, HI1, HO1, HW⟩, #Hm⟩
  iapply (start_in d i A 0 arg4 arg10.sem (by decide) 0 (by decide) _ _ (off1_eq i 0)) $$ HI0
  iintro HI0
  iapply wpT_ret
  unfold k0_part71_skel
  simp only [Prog.bind_lift, Prog.pure_eq_ret]
  iapply (start_in d i A 1 arg5 arg11.sem (by decide) 0 (by decide) _ _ (off1_eq i 1)) $$ HI1
  iintro HI1
  iapply (wp_rounds d i A oneF zeroF f harg2 harg3 arg4 harg4 arg5 harg5 arg6 harg6 arg7 harg7 arg8 arg9 arg10 arg11 _ O W h6 h7) $$ [HI0 HO0 HI1 HO1 HW]
  · isplitl
    · unfold AtRound OutAt
      isplitl [HI0]; · iexact HI0
      isplitl [HO0]; · iexact HO0
      isplitl [HI1]; · iexact HI1
      isplitl [HO1] <;> iassumption
    · iexact Hm
  unfold AtRound
  iintro ⟨HI0, HO0, HI1, HO1, HW⟩
  iapply wpT_ret
  unfold k0_part72_skel
  simp only [Prog.bind_lift, Prog.pure_eq_ret]
  iapply (wait_out d i A oneF zeroF 0 arg6 arg8.sem f O W 15 (by decide) rfl) $$ [HO0 HW]
  · isplitl [HO0]; · iexact HO0
    isplitl [HW]; · iexact HW
    iexact Hm
  iintro ⟨HO0, HW⟩
  iapply wpT_ret
  iapply (wait_out d i A oneF zeroF 1 arg7 arg9.sem f O W 15 (by decide) rfl) $$ [HO1 HW]
  · isplitl [HO1]; · iexact HO1
    isplitl [HW]; · iexact HW
    iexact Hm
  iintro ⟨HO1, HW⟩
  iapply wpT_ret
  iapply wpT_ret
  isplitl [HI0]; · iapply (Entails.of_eq (InAt_end d i A 0 arg4 arg10.sem)) $$ HI0
  isplitl [HO0]; · iexact HO0
  isplitl [HI1]; · iapply (Entails.of_eq (InAt_end d i A 1 arg5 arg11.sem)) $$ HI1
  isplitl [HO1] <;> iassumption

end Round

end Cert.Proof

end
-- ==== Proof.Task.lean ====
/- A subcore's task, as the launch hands it over: its chunks of the two arrays, its buffers and its semaphores. -/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- A subcore's four buffers. -/
abbrev bI0 : Memref sig .scVector .vmem S8x256 .i32 := Memref.whole cc0_scratch0
abbrev bI1 : Memref sig .scVector .vmem S8x256 .i32 := Memref.whole cc0_scratch1
abbrev bO0 : Memref sig .scVector .vmem S21x8x256 .f32 := Memref.whole cc0_scratch2
abbrev bO1 : Memref sig .scVector .vmem S21x8x256 .f32 := Memref.whole cc0_scratch3

section Task

variable (d : Dev nD) (i : grid0.Coords)

abbrev cell (sm : DmaSem sig) : GSem nD τ sig := (tile d i, .dma sm)

theorem cell_ne {a b : DmaSem sig} (h : a ≠ b) : cell d i a ≠ cell d i b := fun e => h (by injection e with _ e; injection e)

theorem cell_own (a : DmaSem sig) (h : (SemLoc.dma a : SemLoc sig).isScoped .scVector = true) : cell d i a ∈ ownCells (tile d i) :=
  mem_ownCells.mpr ⟨rfl, h⟩

/-- The four semaphores, and the rest. -/
theorem ownSems0_tile :
    (ownSems0 (tile d i) : sProp 𝕄)
      = iprop(semVal (cell d i cc0_scratch4.sem) 0 ∗ semVal (cell d i cc0_scratch5.sem) 0 ∗ semVal (cell d i cc0_scratch6.sem) 0 ∗ semVal (cell d i cc0_scratch7.sem) 0
          ∗ bigSep (((((ownCells (tile d i)).erase (cell d i cc0_scratch4.sem)).erase (cell d i cc0_scratch5.sem)).erase (cell d i cc0_scratch6.sem)).erase
              (cell d i cc0_scratch7.sem)) fun g => semVal g 0) := by
  unfold SparseCore.Cfg.ownSems0
  rw [SparseCore.bigSep_erase' (cell_own d i cc0_scratch4.sem (by decide)),
    SparseCore.bigSep_erase' (Finset.mem_erase.mpr ⟨cell_ne d i (by decide), cell_own d i cc0_scratch5.sem (by decide)⟩),
    SparseCore.bigSep_erase' (Finset.mem_erase.mpr ⟨cell_ne d i (by decide), Finset.mem_erase.mpr ⟨cell_ne d i (by decide), cell_own d i cc0_scratch6.sem (by decide)⟩⟩),
    SparseCore.bigSep_erase' (Finset.mem_erase.mpr ⟨cell_ne d i (by decide), Finset.mem_erase.mpr ⟨cell_ne d i (by decide), Finset.mem_erase.mpr ⟨cell_ne d i (by decide),
      cell_own d i cc0_scratch7.sem (by decide)⟩⟩⟩)]

abbrev place' (b : Ref sig .scVector) : DevRef τ sig := (vth i).devRef b

theorem place'_ne {a b : Ref sig .scVector} (h : a ≠ b) : place' i a ≠ place' i b := fun e => h (Proc.devRef_injective _ e)

/-- The four buffers, and the rest. -/
theorem ownBufs_tile :
    (ownBufs (tile d i) : sProp 𝕄)
      = iprop((∃ X, bI0.view.loc (tile d i) ↦{fullShare} X) ∗ (∃ X, bI1.view.loc (tile d i) ↦{fullShare} X)
          ∗ (∃ X, bO0.view.loc (tile d i) ↦{fullShare} X) ∗ (∃ X, bO1.view.loc (tile d i) ↦{fullShare} X)
          ∗ bigSep (((((ownRefs (τ := τ) (vth i)).erase (place' i cc0_scratch0)).erase (place' i cc0_scratch1)).erase (place' i cc0_scratch2)).erase (place' i cc0_scratch3))
              fun b => iprop(∃ X, ((d, b) : Loc nD τ sig) ↦{fullShare} X)) := by
  unfold SparseCore.Cfg.ownBufs
  refine (SparseCore.bigSep_erase' (SparseCore.Cfg.mem_ownRefs_of_owner (p := vth i) (b := place' i cc0_scratch0) rfl)).trans ?_
  rw [SparseCore.bigSep_erase' (Finset.mem_erase.mpr ⟨place'_ne i (by decide), SparseCore.Cfg.mem_ownRefs_of_owner (p := vth i) (b := place' i cc0_scratch1) rfl⟩),
    SparseCore.bigSep_erase' (Finset.mem_erase.mpr ⟨place'_ne i (by decide), Finset.mem_erase.mpr ⟨place'_ne i (by decide),
      SparseCore.Cfg.mem_ownRefs_of_owner (p := vth i) (b := place' i cc0_scratch2) rfl⟩⟩),
    SparseCore.bigSep_erase' (Finset.mem_erase.mpr ⟨place'_ne i (by decide), Finset.mem_erase.mpr ⟨place'_ne i (by decide), Finset.mem_erase.mpr ⟨place'_ne i (by decide),
      SparseCore.Cfg.mem_ownRefs_of_owner (p := vth i) (b := place' i cc0_scratch3) rfl⟩⟩⟩)]

variable [FloatOps F] (A : Buf (Elt F) (aLoc d)) (f : Buf (Elt F) (oLoc d))

/-- A subcore's chunks: of the index array, and of the result at contents `f`. -/
def share : sProp 𝕄 :=
  iprop(((bigSep rounds fun s => inP d A (num i 0 s)) ∗ (bigSep rounds fun s => inP d A (num i 1 s)))
    ∗ (bigSep rounds fun s => outP d f (num i 0 s)) ∗ (bigSep rounds fun s => outP d f (num i 1 s)))

instance share_storable : BI.Storable (upEmb : UEmb _ 𝕄) (share d i A f) := by
  unfold share inP outP
  infer_instance

/-- What the kernel leaves of the result. -/
abbrev outEnd : Buf (Elt F) (oLoc d) := outAll d A oneF zeroF

theorem outMix_start (b : Nat) : bigSep rounds (outMix d i A oneF zeroF b f 0) = bigSep rounds fun s => outP d f (num i b s) :=
  bigSep_congr fun s _ => by unfold outMix; rw [if_neg (Nat.not_lt_zero s)]

theorem outMix_end (b : Nat) : bigSep rounds (outMix d i A oneF zeroF b f 16) = bigSep rounds fun s => outP d (outEnd d A) (num i b s) :=
  bigSep_congr fun s hs => by unfold outMix; rw [if_pos (Finset.mem_range.mp hs)]

theorem wp_task (hF : (K (F := F)).Facts) (O : CellTallies nD τ sig (HIx 1)) (W : Waits sig (HIx 1)) (hO : ∀ g, O g none = 0) :
    iprop(levAts (K (F := F)).L (K (F := F)).lev ∗ emp ∗ share d i A f ∗ scopedBufs (tile d i) ∗ scopedSems0 (tile d i) ∗ owes (tile d i) O W)
      ⊢ wpT d i (cc0__sc_onehot (F := F) i aV (Memref.isWhole_whole _) oV (Memref.isWhole_whole _) bI0 (Memref.isWhole_whole _) bI1 (Memref.isWhole_whole _)
          bO0 (Memref.isWhole_whole _) bO1 (Memref.isWhole_whole _) cc0_scratch4 cc0_scratch5 cc0_scratch6 cc0_scratch7)
        (fun _ => iprop(share d i A (outEnd d A) ∗ scopedBufs (tile d i) ∗ scopedSems0 (tile d i) ∗ ∃ W', ⌜∀ p ∈ W', p ∈ W ∨ p.2 = none⌝ ∗ owes (tile d i) O W')) := by
  rw [(K (F := F)).scopedBufs_V hF d ((i 0).castLE hcore0) ((i 1).castLE hsub0),
    SparseCore.Cfg.scopedSems0_V (Val := Elt F) d ((i 0).castLE hcore0) ((i 1).castLE hsub0)]
  rw [ownSems0_tile, ownBufs_tile]
  have hk := wp_kernel d i A f (Memref.isWhole_whole _) (Memref.isWhole_whole _) bI0 (Memref.isWhole_whole _) bI1 (Memref.isWhole_whole _)
    bO0 (Memref.isWhole_whole _) bO1 (Memref.isWhole_whole _) cc0_scratch4 cc0_scratch5 cc0_scratch6 cc0_scratch7 O W (View.set_whole _) (View.set_whole _)
  unfold InIdle OutIdle at hk
  rw [outMix_start, outMix_start, outMix_end, outMix_end] at hk
  unfold share
  iintro ⟨#Hlv, -, ⟨⟨Ha0, Ha1⟩, Ho0, Ho1⟩, ⟨HI0, HI1, HO0, HO1, Hbufs⟩, ⟨Hs0, Hs1, Hv0, Hv1, Hsems⟩, HO⟩
  ihave #Hmw := ((K (F := F)).mayWaits_none (thr := tile d i) hO) $$ Hlv
  iapply (wp_wand frame _ Set.univ) $$ [Ha0 Ha1 Ho0 Ho1 HI0 HI1 HO0 HO1 Hs0 Hs1 Hv0 Hv1 HO]
  · iapply hk
    isplitl
    · isplitl [Ha0 HI0 Hv0]
      · isplitl [Ha0]; · iexact Ha0
        isplitl [HI0] <;> iassumption
      isplitl [Ho0 HO0 Hs0]
      · isplitl [Ho0]; · iexact Ho0
        isplitl [HO0] <;> iassumption
      isplitl [Ha1 HI1 Hv1]
      · isplitl [Ha1]; · iexact Ha1
        isplitl [HI1] <;> iassumption
      isplitl [Ho1 HO1 Hs1]
      · isplitl [Ho1]; · iexact Ho1
        isplitl [HO1] <;> iassumption
      unfold Owes
      iexists W
      isplitr
      · ipureintro; exact fun p hp => .inl hp
      · iexact HO
    · iexact Hmw
  iintro %_ ⟨⟨Ha0, HI0, Hv0⟩, ⟨Ho0, HO0, Hs0⟩, ⟨Ha1, HI1, Hv1⟩, ⟨Ho1, HO1, Hs1⟩, HO⟩
  isplitl [Ha0 Ha1 Ho0 Ho1]
  · isplitl [Ha0 Ha1]
    · isplitl [Ha0] <;> iassumption
    · isplitl [Ho0] <;> iassumption
  isplitl [HI0 HI1 HO0 HO1 Hbufs]
  · isplitl [HI0]; · iexact HI0
    isplitl [HI1]; · iexact HI1
    isplitl [HO0]; · iexact HO0
    isplitl [HO1] <;> iassumption
  isplitr [HO]
  · isplitl [Hs0]; · iexact Hs0
    isplitl [Hs1]; · iexact Hs1
    isplitl [Hv0]; · iexact Hv0
    isplitl [Hv1] <;> iassumption
  unfold Owes
  iexact HO

end Task

end Cert.Proof

end
-- ==== Proof.Launch.lean ====
/- The launch: the arrays dealt to the thirty-two subcores and taken back, @main's transposition after the call, and what
   every execution of the program leaves. -/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MM F

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The chunks of the whole arrays, dealt out -/

/-- The grid position of subcore `j` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of the chunk of SparseCore `c`, subcore `j`, pair `b`, round `s`. -/
def numOf (x : Fin 2 × Fin 16 × Fin 2 × Nat) : Nat := 32 * (2 * x.2.1.val + x.1.val) + (2 * x.2.2.2 + x.2.2.1.val)

/-- All of them. -/
def places : Finset (Fin 2 × Fin 16 × Fin 2 × Nat) := Finset.univ ×ˢ (Finset.univ ×ˢ (Finset.univ ×ˢ rounds))

theorem mem_places (x : Fin 2 × Fin 16 × Fin 2 × Nat) : x ∈ places ↔ x.2.2.2 < 16 := by
  simp [places]

theorem numOf_inj : Set.InjOn numOf (places : Set (Fin 2 × Fin 16 × Fin 2 × Nat)) := by
  rintro ⟨c, j, b, s⟩ hx ⟨c', j', b', s'⟩ hy h
  have hs : s < 16 := (mem_places _).mp hx
  have hs' : s' < 16 := (mem_places _).mp hy
  have h : 32 * (2 * j.val + c.val) + (2 * s + b.val) = 32 * (2 * j'.val + c'.val) + (2 * s' + b'.val) := h
  have hb := b.isLt; have hb' := b'.isLt; have hc := c.isLt; have hc' := c'.isLt
  obtain rfl : c = c' := Fin.ext (by omega)
  obtain rfl : j = j' := Fin.ext (by omega)
  obtain rfl : b = b' := Fin.ext (by omega)
  obtain rfl : s = s' := by omega
  rfl

theorem numOf_image : Finset.range 1024 = places.image numOf := by
  ext n
  rw [Finset.mem_range, Finset.mem_image]
  constructor
  · intro hn
    refine ⟨(⟨n / 32 % 2, by omega⟩, ⟨n / 64, by omega⟩, ⟨n % 2, by omega⟩, n % 32 / 2), (mem_places _).mpr ?_, ?_⟩
    · show n % 32 / 2 < 16
      omega
    · show 32 * (2 * (n / 64) + n / 32 % 2) + (2 * (n % 32 / 2) + n % 2) = n
      omega
  · rintro ⟨⟨c, j, b, s⟩, hx, rfl⟩
    have hs : s < 16 := (mem_places _).mp hx
    have hb := b.isLt; have hc := c.isLt; have hj := j.isLt
    show 32 * (2 * j.val + c.val) + (2 * s + b.val) < 1024
    omega

theorem deal (Φ : Nat → sProp 𝕄) :
    bigSep (Finset.range 1024) Φ
      = bigSep (Finset.univ : Finset (Fin 2)) fun c => bigSep (Finset.univ : Finset (Fin 16)) fun j =>
          iprop((bigSep rounds fun s => Φ (num (coordsV c j) 0 s)) ∗ (bigSep rounds fun s => Φ (num (coordsV c j) 1 s))) := by
  rw [numOf_image, SparseCore.bigSep_image_of_injOn numOf_inj, places, SparseCore.bigSep_product]
  refine bigSep_congr fun c _ => ?_
  rw [SparseCore.bigSep_product]
  refine bigSep_congr fun j _ => ?_
  rw [SparseCore.bigSep_product, BI.bigSep_fin_two]
  rfl

/-- Chunks numbered by a function of the position make up the whole. -/
theorem whole_of_chunks {ℓ : Loc nD τ sig} (g : Buf (Elt F) ℓ) (num : Idx ℓ → Nat) (n : Nat) (h : ∀ y, num y < n) :
    (ℓ ↦{fullShare} g : sProp 𝕄) = bigSep (Finset.range n) fun k => ℓ ↦[Finset.univ.filter fun y => num y = k]{fullShare} g := by
  have hU : (Finset.univ : Finset (Idx ℓ)) = (Finset.range n).biUnion fun k => Finset.univ.filter fun y => num y = k := by
    ext y
    simp only [Finset.mem_univ, Finset.mem_biUnion, Finset.mem_range, Finset.mem_filter, true_and, true_iff]
    exact Exists.intro (num y) ⟨h y, rfl⟩
  refine (congrArg (fun S => (ℓ ↦[S]{fullShare} g : sProp 𝕄)) hU).trans (pointsTo_biUnion _ _ ?_)
  intro s _ t _ hst
  exact Finset.disjoint_left.mpr fun y h1 h2 => hst ((Finset.mem_filter.mp h1).2.symm.trans (Finset.mem_filter.mp h2).2)

theorem numIn_lt (y : S2048x1024.Idx) : numIn y < 1024 := by
  have h0 : (y 0).val < 2048 := (y 0).isLt
  have h1 : (y 1).val < 1024 := (y 1).isLt
  unfold numIn
  omega

theorem numOut_lt (y : S21x2048x1024.Idx) : numOut y < 1024 := by
  have h0 : (y 1).val < 2048 := (y 1).isLt
  have h1 : (y 2).val < 1024 := (y 2).isLt
  unfold numOut
  omega

theorem chunks_in (d : Dev nD) (A : Buf (Elt F) (aLoc d)) : (aLoc d ↦{fullShare} A : sProp 𝕄) = bigSep (Finset.range 1024) (inP d A) :=
  whole_of_chunks (ℓ := aLoc d) A numIn 1024 numIn_lt

theorem chunks_out (d : Dev nD) (f : Buf (Elt F) (oLoc d)) : (oLoc d ↦{fullShare} f : sProp 𝕄) = bigSep (Finset.range 1024) (outP d f) :=
  whole_of_chunks (ℓ := oLoc d) f numOut 1024 numOut_lt

variable [FloatOps F]

/-- Both arrays, dealt to the subcores. -/
theorem shares (d : Dev nD) (A : Buf (Elt F) (aLoc d)) (f : Buf (Elt F) (oLoc d)) :
    (iprop((aLoc d ↦{fullShare} A) ∗ oLoc d ↦{fullShare} f) : sProp 𝕄)
      = bigSep (Finset.univ : Finset (Fin 2)) fun c => bigSep (Finset.univ : Finset (Fin 16)) fun j => share d (coordsV c j) A f := by
  rw [chunks_in, chunks_out, deal, deal, ← bigSep_sep']
  refine bigSep_congr fun c _ => ?_
  rw [← bigSep_sep']
  rfl

/-! ## The payloads -/

variable (m : (ℓ : Loc nD τ sig) → Buf (Elt F) ℓ) (ρ : Dev nD → PrngReg)

/-- What a subcore is given, and what it gives back. -/
abbrev given (d : Dev nD) (c : Fin 2) (j : Fin 16) : sProp 𝕄 := share d (coordsV c j) (m (aLoc d)) (m (oLoc d))
abbrev taken (d : Dev nD) (c : Fin 2) (j : Fin 16) : sProp 𝕄 := share d (coordsV c j) (m (aLoc d)) (outEnd d (m (aLoc d)))

def P : (K (F := F)).Pay (nD := nD) (Val := Elt F) (Name := ℕ) (U := UU) where
  st := fun q d c => match q with | 0 => bigSep Finset.univ (given m d c)
  dn := fun q d c => match q with | 0 => bigSep Finset.univ (taken m d c)
  go := fun q d c i => match q with | 0 => given m d c i
  td := fun q d c i => match q with | 0 => taken m d c i
  x := fun _ _ => iprop(emp)

omit [FloatOps F] in
theorem storable_all {Φ : Fin 16 → sProp 𝕄} (h : ∀ j, BI.Storable (upEmb : UEmb _ 𝕄) (Φ j)) : BI.Storable (upEmb : UEmb _ 𝕄) (bigSep Finset.univ Φ) := by
  haveI := h
  infer_instance

instance P_storable : (P (F := F) m).IsStorable where
  st q d c := match q with | 0 => storable_all (fun j => (inferInstance : BI.Storable (upEmb : UEmb _ 𝕄) (given m d c j)))
  dn q d c := match q with | 0 => storable_all (fun j => (inferInstance : BI.Storable (upEmb : UEmb _ 𝕄) (taken m d c j)))
  go q d c i := match q with | 0 => (inferInstance : BI.Storable (upEmb : UEmb _ 𝕄) (given m d c i))
  td q d c i := match q with | 0 => (inferInstance : BI.Storable (upEmb : UEmb _ 𝕄) (taken m d c i))

theorem defs₀_vector (c : Fin τ.nSC) (s : Fin τ.nSub) :
    defs₀ (F := F) (.scVector c s) 0 ()
      = SparseCore.onTile hcore0 hsub0 (fun c s => cc0__sc_onehot (coordsV c s) aV (Memref.isWhole_whole _) oV (Memref.isWhole_whole _)
          bI0 (Memref.isWhole_whole _) bI1 (Memref.isWhole_whole _) bO0 (Memref.isWhole_whole _) bO1 (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (wp_task d (coordsV ⟨_, hc.1⟩ ⟨_, hc.2⟩) (m (aLoc d)) (m (oLoc d)) facts O W hO).trans (wp_mono frame _ _ fun _ => obl_post)

theorem vecSplit : (K (F := F)).VecSplit' (P m) 0 := by
  intro d c
  show bigSep (Finset.univ : Finset (Fin 16)) (given m d c)
    ⊢ |={Set.univ}=> iprop((bigSep (Finset.univ : Finset (Fin 16)) (given m d c))
      ∗ ((bigSep (Finset.univ : Finset (Fin 16)) (taken m d c)) -∗ (bigSep (Finset.univ : Finset (Fin 16)) (taken m d c))))
  iintro H; imodintro
  isplitl [H]; · iexact H
  iintro H; iexact H

/-! ## The handshakes' rounds, at the launch -/

/-- The handshakes' rounds; the kernel keeps no counters of its own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

abbrev bLoc (d : Dev nD) : Loc nD τ sig := (SparseCore.T d).loc main_arg1
abbrev rLoc (d : Dev nD) : Loc nD τ sig := (SparseCore.T d).loc main_v1

/-- The TensorCore's four arrays. -/
abbrev a' : DevRef τ sig := Proc.devRef .tc (main_arg0 : Ref sig .tc)
abbrev b' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev S4 : Finset (DevRef τ sig) := {a', b', o', r'}

/-- The result's axes turned to the caller's order. -/
abbrev turned : (⟨S21x2048x1024, .f32⟩ : BufTy).Contents (Elt F) → (⟨S2048x1024x21, .f32⟩ : BufTy).Contents (Elt F) :=
  (transpose S2048x1024x21 [1, 2, 0] · transposes_S21x2048x1024_S2048x1024x21_1_2_0)

abbrev opT : HloOp τ sig (Elt F) := StableHlo.unary main_v0 main_v1 turned

theorem held_S4 (d : Dev nD) (W : Valuation τ sig (Elt F)) :
    (held (SparseCore.T d) S4 W : sProp 𝕄)
      = iprop((aLoc d ↦{fullShare} W a') ∗ (bLoc d ↦{fullShare} W b') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

/-- The launch contents; and after the call, the result at the expansion. -/
def V0 (d : Dev nD) : Valuation τ sig (Elt F) := fun b => m (d, b)
def V1 (d : Dev nD) : Valuation τ sig (Elt F) := Function.update (V0 m d) o' (outEnd d (m (aLoc d)))

theorem unscoped_held (d : Dev nD) : (unscopedBufs d (fun b => m ((SparseCore.T d).loc b)) : sProp 𝕄) = held (SparseCore.T d) S4 (V0 m d) := by
  rw [held_S4]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem V1_a (d : Dev nD) : V1 m d a' = m (aLoc d) := Function.update_of_ne (show a' ≠ o' by decide) _ _
theorem V1_b (d : Dev nD) : V1 m d b' = m (bLoc d) := Function.update_of_ne (show b' ≠ o' by decide) _ _
theorem V1_o (d : Dev nD) : V1 m d o' = outEnd d (m (aLoc d)) := Function.update_self _ _ _
theorem V1_r (d : Dev nD) : V1 m d r' = m (rLoc d) := Function.update_of_ne (show r' ≠ o' by decide) _ _

/-- The result, as the program leaves it. -/
def resEnd (d : Dev nD) : Buf (Elt F) (rLoc d) := turned (outEnd d (m (aLoc d)))

theorem V2_a (d : Dev nD) : (opT (F := F)).result (V1 m d) a' = m (aLoc d) := by
  rw [(opT (F := F)).result_of_not_mem (V1 m d) (b := a') (show a' ∉ ({r'} : Finset (DevRef τ sig)) by decide), V1_a]
theorem V2_b (d : Dev nD) : (opT (F := F)).result (V1 m d) b' = m (bLoc d) := by
  rw [(opT (F := F)).result_of_not_mem (V1 m d) (b := b') (show b' ∉ ({r'} : Finset (DevRef τ sig)) by decide), V1_b]
theorem V2_r (d : Dev nD) : (opT (F := F)).result (V1 m d) r' = resEnd m d := by
  unfold resEnd
  rw [← V1_o m d]
  exact StableHlo.unary_result _ _ _ _ _ _

theorem given_whole (d : Dev nD) :
    (bigSep Finset.univ fun c : Fin ((K (F := F)).nCore 0) => (P m).st 0 d c)
      = (iprop((aLoc d ↦{fullShare} m (aLoc d)) ∗ oLoc d ↦{fullShare} m (oLoc d)) : sProp 𝕄) := (shares d _ _).symm
theorem taken_whole (d : Dev nD) :
    (bigSep Finset.univ fun c : Fin ((K (F := F)).nCore 0) => (P m).dn 0 d c)
      = (iprop((aLoc d ↦{fullShare} m (aLoc d)) ∗ oLoc d ↦{fullShare} outEnd d (m (aLoc d))) : sProp 𝕄) := (shares d _ _).symm

theorem opT_within : (opT (F := F)).bufs ⊆ S4 := show ({o', r'} : Finset (DevRef τ sig)) ⊆ S4 by decide

/-- What @main leaves: the arguments as they were, the result at its value. -/
abbrev FIN (d : Dev nD) : sProp 𝕄 :=
  iprop((aLoc d ↦{fullShare} m (aLoc d)) ∗ (bLoc d ↦{fullShare} m (bLoc d)) ∗ rLoc d ↦{fullShare} resEnd m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S4 (F := F) d _)) $$ Hheld
  icases Hh with ⟨Ha, Htab, Ho, Hr⟩
  iapply ((K (F := F)).wp_run (D (F := F)) 𝒱 (EH := EH) (P := P m) κ d 0) $$ [Hst Ha Ho Htab Hb Hr Hts]
  isplitr; · iexact Hctx
  isplitl [Hst]; · iexact Hst
  isplitl [Ha Ho]
  · iapply (Entails.of_eq (given_whole m d).symm)
    isplitl [Ha]; · iexact Ha
    iexact Ho
  iintro ⟨Hst, Hdn⟩
  ihave Hdn' := (Entails.of_eq (taken_whole m d)) $$ Hdn
  icases Hdn' with ⟨Ha, Ho⟩
  iapply (wp_hlo_within 𝒱 (SparseCore.T d) none Set.univ (op := opT) (S := S4) opT_within (V := V1 m d)) $$ [Hb Ha Htab Ho Hr]
  · isplitl [Hb]; · iexact Hb
    rw [held_S4, V1_a, V1_b, V1_o, V1_r]
    isplitl [Ha]; · iexact Ha
    isplitl [Htab]; · iexact Htab
    isplitl [Ho]; · iexact Ho
    iexact Hr
  iintro ⟨Hb, Hheld⟩
  ihave Hh := (Entails.of_eq (held_S4 (F := F) d _)) $$ Hheld
  icases Hh with ⟨Ha, Htab, -, Hr⟩
  ihave Ha' := (Entails.of_eq (congrArg (fun v => (aLoc d ↦{fullShare} v : sProp 𝕄)) (V2_a m d))) $$ Ha
  ihave Ht' := (Entails.of_eq (congrArg (fun v => (bLoc d ↦{fullShare} v : sProp 𝕄)) (V2_b m d))) $$ Htab
  ihave Hr' := (Entails.of_eq (congrArg (fun v => (rLoc d ↦{fullShare} v : sProp 𝕄)) (V2_r m d))) $$ Hr
  rw [wp_ret]; imodintro; imodintro
  isplitl [Hst]; · iexact Hst
  isplitl [Ha' Ht' Hr']
  · isplitl [Ha']; · iexact Ha'
    isplitl [Ht']; · iexact Ht'
    iexact Hr'
  isplitl [Hb] <;> iassumption

def fq (d : Dev nD) (s' : Phys nD τ sig (Elt F)) : Prop :=
  s'.mem.mem (aLoc d) = m (aLoc d) ∧ s'.mem.mem (bLoc d) = m (bLoc d) ∧ s'.mem.mem (rLoc d) = resEnd m d

/-- An array held whole is read at what it is held at. -/
theorem read_whole {ℓ : Loc nD τ sig} (g : Buf (Elt F) ℓ) (s' : Phys nD τ sig (Elt F)) :
    iprop(SI s' ∗ ℓ ↦{fullShare} g) ⊢ (iprop(⌜s'.mem.mem ℓ = g⌝ ∗ SI s') : sProp 𝕄) := by
  iintro H
  ihave H' := (persistent_entails_right (SI_pointsTo_agree (st := s') (ℓ := ℓ) (I := Finset.univ) (q := fullShare) (f := g))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (read_whole _ s') $$ [HSI Ha]
  · isplitl [HSI] <;> iassumption
  icases H with ⟨%ha, HSI⟩
  ihave H := (read_whole _ s') $$ [HSI Ht]
  · isplitl [HSI] <;> iassumption
  icases H with ⟨%ht, HSI⟩
  ihave H := (read_whole _ s') $$ [HSI Hr]
  · isplitl [HSI] <;> iassumption
  icases H with ⟨%hr, HSI⟩
  ipureintro; exact ⟨ha, ht, hr⟩

/-! ## The program's run -/

def QC : PUnit × MemSt nD τ sig (Elt F) → Prop := fun r =>
  (∀ d : Dev nD, r.2.mem (aLoc d) = m (aLoc d) ∧ r.2.mem (bLoc d) = m (bLoc d) ∧ r.2.mem (rLoc d) = resEnd m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.RefValue.lean ====
/- The reference's value: read at an element, its scatter of ones onto a table of zeros is one where the word of that row
   and column is the element's class, else zero, which is what the kernel leaves. -/
module

public import proofs.«01_k».proof.Defs
public import proofs.«01_k».proof.Proof.Gen.ReferenceIdeal
public import proofs.«01_k».proof.Proof.Gen.ReferenceIdeal.Run
public import proofs.«01_k».proof.Proof.Gen.Pre_zero_table
public import Idealize.ShloMosaic.Lib.ReduceAll
public import Idealize.ShloMosaic.Lib.Routing.OpsSet
public import Idealize.ShloMosaic.Lib.Pointwise
public import proofs.«01_k».proof.Proof.Launch

@[expose] public section

noncomputable section

namespace Cert.Proof.Ref

open Cert.ReferenceIdeal Cert.ReferenceIdeal.Gen
open Idealize.ShloMosaic Idealize.ShloMosaic.Routing

abbrev Tbl := S2048x21x1024.Idx → Ideal .f32
abbrev Words := S2048x1024.Idx → BitVec 32

/-! ## The precondition, element by element -/

theorem scalar_idx : Subsingleton Cert.Pre_zero_table.S_.Idx := ⟨fun _ _ => funext fun a => a.elim0⟩

theorem of_pre (A : Words) (B : Tbl) (h : Cert.Pre_zero_table.fn (F := Ideal) A B = fun _ => 1#1) :
    (∀ i, (A i).toNat < 2 ^ 31) ∧ ∀ i, B i = zeroF := by
  haveI := scalar_idx
  have e := congrFun h (fun a => a.elim0)
  unfold Cert.Pre_zero_table.fn at e
  obtain ⟨hA, hB⟩ := IntOp.andi_eq_one.1 e
  refine ⟨fun i => ?_, fun i => ?_⟩
  · have hi : IntOp.cmpi .sge (A i) 0#32 = 1#1 := Host.reduce_andi_all _ _ _ _ _ hA i
    rw [WordCmp.cmpi_sge_zero] at hi
    by_contra hn
    rw [decide_eq_false hn] at hi
    exact absurd hi (by decide)
  · have hi : Ideal.cmp .oeq (B i) (zeroF (F := Ideal)) = 1#1 := Host.reduce_andi_all _ _ _ _ _ hB i
    unfold Ideal.cmp at hi
    by_contra hn
    have hf : decide (B i = (zeroF (F := Ideal))) = false := decide_eq_false hn
    simp only [hf] at hi
    exact absurd hi (by decide)

/-! ## The index words -/

/-- A row's number, as jnp wraps it, down the table. -/
def rowWords : IVec S2048x1024x1 32 :=
  broadcastInDim S2048x1024x1 ![0, 1] bcast_S2048x1024_S2048x1024x1_0_1 (broadcastInDim S2048x1024 ![0, 1] bcast_S2048x1_S2048x1024_0_1
    (select (cmpi .slt (broadcastInDim S2048x1 ![0] bcast_S2048_S2048x1_0 (iotaInDim S2048 32 0)) (broadcastInDim S2048x1 ![] bcast_S_S2048x1 (constantI S_ 32 0#32)))
      (addi (broadcastInDim S2048x1 ![0] bcast_S2048_S2048x1_0 (iotaInDim S2048 32 0)) (broadcastInDim S2048x1 ![] bcast_S_S2048x1 (constantI S_ 32 2048#32)))
      (broadcastInDim S2048x1 ![0] bcast_S2048_S2048x1_0 (iotaInDim S2048 32 0))))

/-- The class words, as jnp wraps them. -/
def classWords (A : Words) : IVec S2048x1024x1 32 :=
  broadcastInDim S2048x1024x1 ![0, 1] bcast_S2048x1024_S2048x1024x1_0_1
    (select (cmpi .slt A (broadcastInDim S2048x1024 ![] bcast_S_S2048x1024 (constantI S_ 32 0#32)))
      (addi A (broadcastInDim S2048x1024 ![] bcast_S_S2048x1024 (constantI S_ 32 21#32))) A)

/-- A column's number, as jnp wraps it, along the table. -/
def colWords : IVec S2048x1024x1 32 :=
  broadcastInDim S2048x1024x1 ![0, 1] bcast_S2048x1024_S2048x1024x1_0_1 (broadcastInDim S2048x1024 ![0, 1] bcast_S1x1024_S2048x1024_0_1
    (select (cmpi .slt (broadcastInDim S1x1024 ![1] bcast_S1024_S1x1024_1 (iotaInDim S1024 32 0)) (broadcastInDim S1x1024 ![] bcast_S_S1x1024 (constantI S_ 32 0#32)))
      (addi (broadcastInDim S1x1024 ![1] bcast_S1024_S1x1024_1 (iotaInDim S1024 32 0)) (broadcastInDim S1x1024 ![] bcast_S_S1x1024 (constantI S_ 32 1024#32)))
      (broadcastInDim S1x1024 ![1] bcast_S1024_S1x1024_1 (iotaInDim S1024 32 0))))

/-- The three pieces of an update's words. -/
abbrev pieces (A : Words) : List ((s : Shape) × (s.Idx → BitVec 32)) := [⟨S2048x1024x1, rowWords⟩, ⟨S2048x1024x1, classWords A⟩, ⟨S2048x1024x1, colWords⟩]

/-- The three words of every update. -/
def words (A : Words) : IVec S2048x1024x3 32 :=
  concatenate S2048x1024x3 2 (pieces A)
    concatenates_S2048x1024x1_S2048x1024x1_S2048x1024x1_S2048x1024x3_d2

theorem small_word (n : Nat) (h : n < 2048) : (BitVec.ofNat 32 n).toNat = n := by
  rw [BitVec.toNat_ofNat]
  omega

theorem rowWords_apply (i : Fin 2048) (j : Fin 1024) : rowWords (ix3 i j (0 : Fin 1)) = BitVec.ofNat 32 i.val :=
  wrap_of_lt (BitVec.ofNat 32 i.val) _ (by rw [small_word _ i.isLt]; have := i.isLt; omega)

theorem classWords_apply (A : Words) (i : Fin 2048) (j : Fin 1024) (h : (A (ix2 i j)).toNat < 2 ^ 31) :
    classWords A (ix3 i j (0 : Fin 1)) = A (ix2 i j) :=
  (congrArg (classWords A) rfl).trans (by
    have e : ∀ k : S2048x1024.Idx, k = ix2 i j → Scalar.select (IntOp.cmpi .slt (A k) 0#32) (IntOp.addi (A k) 21#32) (A k) = A (ix2 i j) := by
      rintro k rfl
      exact wrap_of_lt _ _ h
    refine e _ ?_
    funext a
    match a with
    | ⟨0, _⟩ => rfl
    | ⟨1, _⟩ => rfl)

theorem colWords_apply (i : Fin 2048) (j : Fin 1024) : colWords (ix3 i j (0 : Fin 1)) = BitVec.ofNat 32 j.val :=
  wrap_of_lt (BitVec.ofNat 32 j.val) _ (by rw [small_word _ (by have := j.isLt; omega)]; have := j.isLt; omega)

/-- Word `k` of an update is piece `k`'s. -/
theorem words_piece (A : Words) (i : Fin 2048) (j : Fin 1024) (k : Nat) (hk : k < (pieces A).length) (W : IVec S2048x1024x1 32)
    (hW : (pieces A)[k] = ⟨S2048x1024x1, W⟩)
    (hpre : ((((pieces A).take k).map (·.1)).map fun s => if h : s.rank = S2048x1024x3.rank then s.size ((2 : Fin 3).cast h.symm) else 0).sum = k) :
    words A (ix3 i j (⟨k, hk⟩ : Fin 3)) = W (ix3 i j (0 : Fin 1)) := by
  refine concatenate_apply_piece (t := S2048x1024x3) (2 : Fin 3) (pieces A) _ _ k hk S2048x1024x1 W hW rfl k hpre _ (fun b hb => ?_) rfl
  fin_cases b
  · rfl
  · rfl
  · exact absurd rfl hb

theorem row_word (A : Words) (i : Fin 2048) (j : Fin 1024) : words A (ix3 i j (0 : Fin 3)) = BitVec.ofNat 32 i.val :=
  (words_piece A i j 0 (by simp) rowWords rfl rfl).trans (rowWords_apply i j)

theorem class_word (A : Words) (i : Fin 2048) (j : Fin 1024) (h : (A (ix2 i j)).toNat < 2 ^ 31) : words A (ix3 i j (1 : Fin 3)) = A (ix2 i j) :=
  (words_piece A i j 1 (by simp) (classWords A) rfl rfl).trans (classWords_apply A i j h)

theorem col_word (A : Words) (i : Fin 2048) (j : Fin 1024) : words A (ix3 i j (2 : Fin 3)) = BitVec.ofNat 32 j.val :=
  (words_piece A i j 2 (by simp) colWords rfl rfl).trans (colWords_apply i j)

/-! ## Where an update lands -/

abbrev dims : ScatterDims S2048x21x1024 S2048x1024x3 S2048x1024 := scatter_S2048x21x1024_S2048x1024x3_S2048x1024_n_012_012_2

theorem window_zero (k : S2048x1024.Idx) (a : Fin 3) : dims.window k a = 0 := by
  unfold ScatterDims.window
  exact dif_neg (by fin_cases a <;> decide)

theorem start_word (W : IVec S2048x1024x3 32) (k : S2048x1024.Idx) (a : Fin 3) : dims.start k W a = (W (ix3 (k 0) (k 1) a)).toInt := by
  have hm : a ∈ dims.scatterDimsToOperandDims := by fin_cases a <;> decide
  unfold ScatterDims.start
  rw [dif_pos hm]
  refine congrArg (fun x => (W x).toInt) (funext fun b => ?_)
  fin_cases a <;> fin_cases b <;> rfl

theorem lands (W : IVec S2048x1024x3 32) (k : S2048x1024.Idx) (y : S2048x21x1024.Idx) :
    dims.resultIdx? k W = some y ↔ ∀ a : Fin 3, (W (ix3 (k 0) (k 1) a)).toInt = ((y a).val : Int) := by
  rw [resultIdx?_eq_some]
  refine forall_congr' fun a => ?_
  rw [start_word, window_zero, Nat.cast_zero, add_zero]

/-! ## The value -/

theorem toInt_small (w : BitVec 32) (h : w.toNat < 2 ^ 31) (n : Nat) : w.toInt = (n : Int) ↔ w.toNat = n := by
  rw [BitVec.toInt_eq_toNat_of_lt (by omega)]
  omega

theorem toInt_word (w : BitVec 32) (n : Nat) (hn : n < 2048) (h : w = BitVec.ofNat 32 n) (n' : Nat) : w.toInt = (n' : Int) ↔ n = n' := by
  subst h
  rw [toInt_small _ (by rw [small_word _ hn]; omega), small_word _ hn]

theorem lands_words (A : Words) (hA : ∀ i, (A i).toNat < 2 ^ 31) (k : S2048x1024.Idx) (y : S2048x21x1024.Idx) :
    dims.resultIdx? k (words A) = some y ↔ k = ix2 (y 0) (y 2) ∧ (A (ix2 (y 0) (y 2))).toNat = (y 1).val := by
  have hk0 : (k 0).val < 2048 := (k 0).isLt
  have hk1 : (k 1).val < 1024 := (k 1).isLt
  have h0 := toInt_word _ (k 0).val hk0 (row_word A (k 0) (k 1)) (y 0).val
  have h1 : (words A (ix3 (k 0) (k 1) (1 : Fin 3))).toInt = ((y 1).val : Int) ↔ (A (ix2 (k 0) (k 1))).toNat = (y 1).val :=
    (iff_of_eq (congrArg (fun w : BitVec 32 => w.toInt = ((y 1).val : Int)) (class_word A (k 0) (k 1) (hA _)))).trans (toInt_small _ (hA _) _)
  have h2 := toInt_word _ (k 1).val (by omega) (col_word A (k 0) (k 1)) (y 2).val
  rw [lands]
  constructor
  · intro h
    have e0 := h0.mp (h 0)
    have e1 := h1.mp (h 1)
    have e2 := h2.mp (h 2)
    have ek : k = ix2 (y 0) (y 2) := by
      funext a
      match a with
      | ⟨0, _⟩ => exact Fin.ext e0
      | ⟨1, _⟩ => exact Fin.ext e2
    refine ⟨ek, ?_⟩
    subst ek
    exact e1
  · rintro ⟨rfl, h⟩ a
    match a with
    | 0 => exact h0.mpr rfl
    | 1 => exact h1.mpr h
    | 2 => exact h2.mpr rfl

/-- The scatter, on a table of zeros. -/
theorem scattered (A : Words) (B : Tbl) (hA : ∀ i, (A i).toNat < 2 ^ 31) (hB : ∀ i, B i = zeroF) (y : S2048x21x1024.Idx) :
    Host.scatter dims (fun _ b => b) B (words A) (fun _ => (oneF : Ideal .f32)) y
      = if A (ix2 (y 0) (y 2)) = BitVec.ofNat 32 (y 1).val then oneF else zeroF := by
  have hy : (y 1).val < 21 := (y 1).isLt
  have hw : A (ix2 (y 0) (y 2)) = BitVec.ofNat 32 (y 1).val ↔ (A (ix2 (y 0) (y 2))).toNat = (y 1).val := by
    rw [← BitVec.toNat_inj, small_word _ (by omega)]
  by_cases h : A (ix2 (y 0) (y 2)) = BitVec.ofNat 32 (y 1).val
  · rw [if_pos h]
    exact scatter_set_hit dims B (words A) _ y oneF (fun _ _ => rfl) (ix2 (y 0) (y 2)) ((lands_words A hA _ y).mpr ⟨rfl, hw.mp h⟩)
  · rw [if_neg h, ← hB y]
    exact scatter_set_miss dims B (words A) _ y fun k hk => h (hw.mpr ((lands_words A hA k y).mp hk).2)

/-- The reference's result, written out. -/
def result (A : Words) (B : Tbl) : S2048x1024x21.Idx → Ideal .f32 :=
  transpose S2048x1024x21 [0, 2, 1] (Host.scatter dims (fun _ b => b) B (words A)
    (broadcastInDim S2048x1024 ![] bcast_S_S2048x1024 (constant (F := Ideal) S_ .f32 0x3F800000#32))) transposes_S2048x21x1024_S2048x1024x21_0_2_1

/-- It is the kernel's expansion, its axes turned. -/
theorem result_eq (A : Words) (B : Tbl) (hA : ∀ i, (A i).toNat < 2 ^ 31) (hB : ∀ i, B i = zeroF) :
    result A B = turned (F := Ideal) (hotAll (F := Ideal) oneF zeroF A) := by
  funext x
  unfold result turned
  refine (transpose_apply (s := S2048x21x1024) (t := S2048x1024x21) _ _ _ x (ix3 (x 0) (x 2) (x 1)) (fun b => by fin_cases b <;> rfl)).trans ?_
  refine Eq.trans ?_ (transpose_apply (s := KernelIdeal.S21x2048x1024) (t := S2048x1024x21) _ _ _ x (ix3 (x 2) (x 0) (x 1)) (fun b => by fin_cases b <;> rfl)).symm
  refine (scattered A B hA hB _).trans ?_
  unfold hotAll
  refine congrArg (fun k => if A k = BitVec.ofNat 32 (x 2).val then (oneF : Ideal .f32) else zeroF) ?_
  funext a
  match a with
  | ⟨0, _⟩ => rfl
  | ⟨1, _⟩ => rfl

theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v27) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Value.run m ρ)

end Cert.Proof.Ref

end
-- ==== Proof.lean ====
/- The certificate's claim: the frames of the kernel, of its idealization and of the reference, and the equation of the
   two results where the table is zero and the words are not negative. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_zero_table
public import proofs.«01_k».proof.Proof.RefValue
public import proofs.«01_k».proof.Proof.Launch
public import Idealize.ShloMosaic.Adequacy
public import Idealize.ShloMosaic.Init

@[expose] public section

noncomputable section

namespace Cert.Proof

open Idealize.ShloMosaic Idealize.SL.Sem

/-- The kernel's text and its idealization's are one, so one run serves both. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_ideal_pre : Cert.quiescent_KernelIdeal_pre_zero_table := fun m ρ _ => frame_ideal m ρ trivial

theorem frame_ref : Cert.quiescent_ReferenceIdeal := fun m ρ _ =>
  (θ_run Cert.ReferenceIdeal.defs _ _).mono (fun _ h => ⟨fun c => (h.1 c).2, h.2⟩) (Ref.run m ρ)

theorem frame_ref_pre : Cert.quiescent_ReferenceIdeal_pre_zero_table := fun m ρ _ => frame_ref m ρ trivial

/-- The two results are one: each is one where the word is the class, else zero. -/
theorem same_value : Cert.algebraic_KernelIdeal_ReferenceIdeal_pre_zero_table := by
  intro m ρ m' ρ' hpre hagree
  refine ⟨fun c => resEnd m c, (θ_run Cert.KernelIdeal.defs _ _).mono (fun _ h c => ⟨(h.1 c).2.2, (h.1 c).1, (h.1 c).2.1⟩) (run_main (F := Ideal) m ρ), ?_⟩
  refine (θ_run Cert.ReferenceIdeal.defs _ _).mono (fun _ h c => ⟨(h.1 c).1.trans ?_, (h.1 c).2⟩) (Ref.run m' ρ')
  obtain ⟨hA, hB⟩ := Ref.of_pre _ _ (hpre c)
  exact (congrArg₂ Ref.result (hagree c).1 (hagree c).2).trans (Ref.result_eq _ _ hA hB)

theorem claim : Cert.Claim :=
  ⟨Cert.Kernel.Gen.facts, Cert.KernelIdeal.Gen.facts, Cert.ReferenceIdeal.Gen.facts, Cert.Pre_zero_table.Gen.facts,
    frame_kernel, frame_ideal, frame_ideal_pre, frame_ref, frame_ref_pre, trivial, same_value⟩

end Cert.Proof

end
